-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x4 : Shape := ⟨3, ![8, 512, 4]⟩
abbrev S8x65472x1 : Shape := ⟨3, ![8, 65472, 1]⟩
abbrev S8x65472x4 : Shape := ⟨3, ![8, 65472, 4]⟩
abbrev S523776 : Shape := ⟨1, ![523776]⟩
abbrev S16384 : Shape := ⟨1, ![16384]⟩
abbrev S2095104 : Shape := ⟨1, ![2095104]⟩
abbrev S64x16 : Shape := ⟨2, ![64, 16]⟩
abbrev S16368 : Shape := ⟨1, ![16368]⟩
abbrev S65472 : Shape := ⟨1, ![65472]⟩
abbrev S2048 : Shape := ⟨1, ![2048]⟩
abbrev S16 : Shape := ⟨1, ![16]⟩
abbrev S16x16 : Shape := ⟨2, ![16, 16]⟩
abbrev S_ : Shape := ⟨0, ![]⟩
abbrev S1x16 : Shape := ⟨2, ![1, 16]⟩
abbrev S1x1 : Shape := ⟨2, ![1, 1]⟩
abbrev S32x16 : Shape := ⟨2, ![32, 16]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 9
  | .local .tc .vmem => 2
  | .shared => 1
  | .local .scVector .vmem => 5
  | _ => 0

abbrev bufTy : (tb : Table) → Fin (nBuf tb) → BufTy
  | .hbm, ⟨0, _⟩ => ⟨S8x512x4, .f32⟩
  | .hbm, ⟨1, _⟩ => ⟨S8x65472x1, .i32⟩
  | .hbm, ⟨2, _⟩ => ⟨S8x65472x4, .f32⟩
  | .hbm, ⟨3, _⟩ => ⟨S523776, .i32⟩
  | .hbm, ⟨4, _⟩ => ⟨S16384, .f32⟩
  | .hbm, ⟨5, _⟩ => ⟨S2095104, .f32⟩
  | .hbm, ⟨6, _⟩ => ⟨S64x16, .f32⟩
  | .hbm, ⟨7, _⟩ => ⟨S1x1, .f32⟩
  | .hbm, ⟨8, _⟩ => ⟨S_, .f32⟩
  | .local .tc .vmem, ⟨0, _⟩ => ⟨S64x16, .f32⟩
  | .local .tc .vmem, ⟨1, _⟩ => ⟨S1x1, .f32⟩
  | .shared, ⟨0, _⟩ => ⟨S16x16, .i32⟩
  | .local .scVector .vmem, ⟨0, _⟩ => ⟨S16368, .i32⟩
  | .local .scVector .vmem, ⟨1, _⟩ => ⟨S65472, .f32⟩
  | .local .scVector .vmem, ⟨2, _⟩ => ⟨S2048, .f32⟩
  | .local .scVector .vmem, ⟨3, _⟩ => ⟨S16, .i32⟩
  | .local .scVector .vmem, ⟨4, _⟩ => ⟨S16, .f32⟩
  | _, _ => ⟨S8x512x4, .f32⟩

abbrev bufScoped : (cs : CoreSpace) → Fin (nBuf (.local .tc cs)) → Bool
  | .vmem, ⟨0, _⟩ => true
  | .vmem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc0_scratch5 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 9
abbrev cc1_sem1_0 : DmaSem sig := 10
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_10 : BitVec 32 := 4#32
  let v30 : BitVec 32 := Scalar.muli v1 c4_i32_10
  let c16368_i32 : BitVec 32 := 16368#32
  let v31 : BitVec 32 := Scalar.muli v30 c16368_i32
  ![v31.toNat]
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16368_i32_11 : BitVec 32 := 16368#32
  let v34 : BitVec 32 := Scalar.muli v1 c16368_i32_11
  ![v34.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_12 : BitVec 32 := 4#32
  let v35 : BitVec 32 := Scalar.muli v18 c4_i32_12
  let c512_i32 : BitVec 32 := 512#32
  let v36 : BitVec 32 := Scalar.muli v35 c512_i32
  ![v36.toNat]
@[reducible] def k0_t1_loop : Scf.Loop 32 :=
  let c0_i32_14 : BitVec 32 := 0#32
  let c1023_i32 : BitVec 32 := 1023#32
  let v37 : BitVec 32 := Scalar.addi c0_i32_14 c1023_i32
  let c1_i32_15 : BitVec 32 := 1#32
  ⟨c0_i32_14, v37, c1_i32_15⟩
def k0_off4 (k0_t1 : Fin k0_t1_loop.trips) : Fin 1 → Nat :=
  let c0_i32_14 : BitVec 32 := 0#32
  let c1_i32_15 : BitVec 32 := 1#32
  let arg13 : BitVec 32 := Scf.iv c0_i32_14 c1_i32_15 k0_t1
  let c16_i32_52 : BitVec 32 := 16#32
  let v106 : BitVec 32 := Scalar.muli arg13 c16_i32_52
  let v107 : Index := Scalar.indexCast v106
  ![v107.toNat]
def k0_off5 (i : grid0.Coords) : Fin 2 → Nat :=
  let arg1 : BitVec 32 := BitVec.ofNat 32 (i 1).val
  let c0_i32_52_r2 : BitVec 32 := 0#32
  ![arg1.toNat, 0]
def k0_off6 (i : grid0.Coords) (c0_i32_28 : BitVec 32) : Fin 2 → Nat :=
  let arg1 : BitVec 32 := BitVec.ofNat 32 (i 1).val
  let c0_i32_20 : BitVec 32 := 0#32
  let v44 : BitVec 1 := Scalar.cmpi .sgt arg1 c0_i32_20
  let v45 : BitVec 32 := Scalar.extui v44
  let c0_i32_21 : BitVec 32 := 0#32
  let v46 : BitVec 1 := Scalar.cmpi .slt arg1 c0_i32_21
  let v47 : BitVec 32 := Scalar.extui v46
  let v48 : BitVec 32 := Scalar.subi v45 v47
  let c4_i32_19 : BitVec 32 := 4#32
  let c0_i32_22 : BitVec 32 := 0#32
  let v49 : BitVec 1 := Scalar.cmpi .sgt c4_i32_19 c0_i32_22
  let v50 : BitVec 32 := Scalar.extui v49
  let c0_i32_23 : BitVec 32 := 0#32
  let v51 : BitVec 1 := Scalar.cmpi .slt c4_i32_19 c0_i32_23
  let v52 : BitVec 32 := Scalar.extui v51
  let v53 : BitVec 32 := Scalar.subi v50 v52
  let v54 : BitVec 1 := Scalar.cmpi .ne v48 v53
  let v55 : BitVec 32 := Scalar.remsi arg1 c4_i32_19
  let c0_i32_24 : BitVec 32 := 0#32
  let v56 : BitVec 1 := Scalar.cmpi .ne v55 c0_i32_24
  let v57 : BitVec 1 := Scalar.andi v54 v56
  let v43 : BitVec 32 := Scalar.divsi arg1 c4_i32_19
  let c1_i32_25 : BitVec 32 := 1#32
  let v58 : BitVec 32 := Scalar.subi v43 c1_i32_25
  let v59 : BitVec 32 := Scalar.select v57 v58 v43
  let c4_i32_27 : BitVec 32 := 4#32
  let v61 : BitVec 32 := Scalar.muli v59 c4_i32_27
  let v62 : BitVec 32 := Scalar.addi v61 c0_i32_28
  let c0_i32_52_r3 : BitVec 32 := 0#32
  ![v62.toNat, 0]
@[reducible] def k0_t2_loop : Scf.Loop 32 :=
  let c0_i32_45 : BitVec 32 := 0#32
  let c1023_i32_46 : BitVec 32 := 1023#32
  let v97 : BitVec 32 := Scalar.addi c0_i32_45 c1023_i32_46
  let c1_i32_47 : BitVec 32 := 1#32
  ⟨c0_i32_45, v97, c1_i32_47⟩
def k0_off7 (k0_t2 : Fin k0_t2_loop.trips) : Fin 1 → Nat :=
  let c0_i32_45 : BitVec 32 := 0#32
  let c1_i32_47 : BitVec 32 := 1#32
  let arg13 : BitVec 32 := Scf.iv c0_i32_45 c1_i32_47 k0_t2
  let c16_i32_52 : BitVec 32 := 16#32
  let v106 : BitVec 32 := Scalar.muli arg13 c16_i32_52
  let v107 : Index := Scalar.indexCast v106
  ![v107.toNat]
def k0_cond1 (v114 : BitVec 32) : BitVec 1 :=
  let c0_i32_54 : BitVec 32 := 0#32
  let v115 : BitVec 1 := Scalar.cmpi .sgt v114 c0_i32_54
  let v116 : BitVec 32 := Scalar.extui v115
  let c0_i32_56 : BitVec 32 := 0#32
  let v117 : BitVec 1 := Scalar.cmpi .ne v116 c0_i32_56
  v117

def k0_chk1 (v114 : BitVec 32) (v140 : IVec S16 32) : Prop :=
  (∀ (k0_h1 : k0_cond1 v114 = 1#1), ∀ a x, ((![v140] : Fin 1 → IVec S16 32) a x).toNat < S2048.size a)
theorem k0_idx1_inb : ∀ (v114 : BitVec 32) (v140 : IVec S16 32) (k0_hw1 : k0_chk1 v114 v140), ∀ (k0_h1 : k0_cond1 v114 = 1#1), ∀ a x, ((![v140] : Fin 1 → IVec S16 32) a x).toNat < S2048.size a := fun v114 v140 k0_hw1 k0_h1 => k0_hw1 k0_h1

def k0_chk2 (v114 : BitVec 32) (v143 : IVec S16 32) : Prop :=
  (∀ (k0_h1 : k0_cond1 v114 = 1#1), ∀ a x, ((![v143] : Fin 1 → IVec S16 32) a x).toNat < S65472.size a)
theorem k0_idx2_inb : ∀ (v114 : BitVec 32) (v143 : IVec S16 32) (k0_hw2 : k0_chk2 v114 v143), ∀ (k0_h1 : k0_cond1 v114 = 1#1), ∀ a x, ((![v143] : Fin 1 → IVec S16 32) a x).toNat < S65472.size a := fun v114 v143 k0_hw2 k0_h1 => k0_hw2 k0_h1

def k0_chk3 (v114 : BitVec 32) (v159 : IVec S16 32) : Prop :=
  (∀ (k0_h1 : k0_cond1 v114 = 1#1), ∀ a x, ((![v159] : Fin 1 → IVec S16 32) a x).toNat < S2048.size a)
theorem k0_idx3_inb : ∀ (v114 : BitVec 32) (v159 : IVec S16 32) (k0_hw3 : k0_chk3 v114 v159), ∀ (k0_h1 : k0_cond1 v114 = 1#1), ∀ a x, ((![v159] : Fin 1 → IVec S16 32) a x).toNat < S2048.size a := fun v114 v159 k0_hw3 k0_h1 => k0_hw3 k0_h1

def k0_chk4 (v114 : BitVec 32) (v162 : IVec S16 32) : Prop :=
  (∀ (k0_h1 : k0_cond1 v114 = 1#1), ∀ a x, ((![v162] : Fin 1 → IVec S16 32) a x).toNat < S65472.size a)
theorem k0_idx4_inb : ∀ (v114 : BitVec 32) (v162 : IVec S16 32) (k0_hw4 : k0_chk4 v114 v162), ∀ (k0_h1 : k0_cond1 v114 = 1#1), ∀ a x, ((![v162] : Fin 1 → IVec S16 32) a x).toNat < S65472.size a := fun v114 v162 k0_hw4 k0_h1 => k0_hw4 k0_h1

def k0_chk5 (v114 : BitVec 32) (v178 : IVec S16 32) : Prop :=
  (∀ (k0_h1 : k0_cond1 v114 = 1#1), ∀ a x, ((![v178] : Fin 1 → IVec S16 32) a x).toNat < S2048.size a)
theorem k0_idx5_inb : ∀ (v114 : BitVec 32) (v178 : IVec S16 32) (k0_hw5 : k0_chk5 v114 v178), ∀ (k0_h1 : k0_cond1 v114 = 1#1), ∀ a x, ((![v178] : Fin 1 → IVec S16 32) a x).toNat < S2048.size a := fun v114 v178 k0_hw5 k0_h1 => k0_hw5 k0_h1

def k0_chk6 (v114 : BitVec 32) (v181 : IVec S16 32) : Prop :=
  (∀ (k0_h1 : k0_cond1 v114 = 1#1), ∀ a x, ((![v181] : Fin 1 → IVec S16 32) a x).toNat < S65472.size a)
theorem k0_idx6_inb : ∀ (v114 : BitVec 32) (v181 : IVec S16 32) (k0_hw6 : k0_chk6 v114 v181), ∀ (k0_h1 : k0_cond1 v114 = 1#1), ∀ a x, ((![v181] : Fin 1 → IVec S16 32) a x).toNat < S65472.size a := fun v114 v181 k0_hw6 k0_h1 => k0_hw6 k0_h1

def k0_chk7 (v114 : BitVec 32) (v197 : IVec S16 32) : Prop :=
  (∀ (k0_h1 : k0_cond1 v114 = 1#1), ∀ a x, ((![v197] : Fin 1 → IVec S16 32) a x).toNat < S2048.size a)
theorem k0_idx7_inb : ∀ (v114 : BitVec 32) (v197 : IVec S16 32) (k0_hw7 : k0_chk7 v114 v197), ∀ (k0_h1 : k0_cond1 v114 = 1#1), ∀ a x, ((![v197] : Fin 1 → IVec S16 32) a x).toNat < S2048.size a := fun v114 v197 k0_hw7 k0_h1 => k0_hw7 k0_h1

def k0_chk8 (v114 : BitVec 32) (v200 : IVec S16 32) : Prop :=
  (∀ (k0_h1 : k0_cond1 v114 = 1#1), ∀ a x, ((![v200] : Fin 1 → IVec S16 32) a x).toNat < S65472.size a)
theorem k0_idx8_inb : ∀ (v114 : BitVec 32) (v200 : IVec S16 32) (k0_hw8 : k0_chk8 v114 v200), ∀ (k0_h1 : k0_cond1 v114 = 1#1), ∀ a x, ((![v200] : Fin 1 → IVec S16 32) a x).toNat < S65472.size a := fun v114 v200 k0_hw8 k0_h1 => k0_hw8 k0_h1
def k0_off8 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_52_r6 : BitVec 32 := 0#32
  ![v1.toNat, 0]
def k0_off9 (i : grid0.Coords) : Fin 2 → Nat :=
  let c32_i32 : BitVec 32 := 32#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v105 : BitVec 32 := Scalar.addi c32_i32 v1
  let c0_i32_52_r7 : BitVec 32 := 0#32
  ![v105.toNat, 0]
abbrev grid1 : Pipeline.Grid := .none

abbrev stage1_0 : Fin 1 → Memref sig .tc .vmem S64x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512x4 : Shape := ⟨3, ![8, 512, 4]⟩
abbrev S8x65472x1 : Shape := ⟨3, ![8, 65472, 1]⟩
abbrev S8x65472x4 : Shape := ⟨3, ![8, 65472, 4]⟩
abbrev S8x65472 : Shape := ⟨2, ![8, 65472]⟩
abbrev S_ : Shape := ⟨0, ![]⟩
abbrev S8x65472x4x1 : Shape := ⟨4, ![8, 65472, 4, 1]⟩
abbrev S1 : Shape := ⟨1, ![1]⟩
abbrev S1x1x1x1 : Shape := ⟨4, ![1, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x512x4, .f32⟩
  | .hbm, ⟨1, _⟩ => ⟨S8x65472x1, .i32⟩
  | .hbm, ⟨2, _⟩ => ⟨S8x65472x4, .f32⟩
  | .hbm, ⟨3, _⟩ => ⟨S8x65472, .i32⟩
  | .hbm, ⟨4, _⟩ => ⟨S_, .i32⟩
  | .hbm, ⟨5, _⟩ => ⟨S8x65472, .i32⟩
  | .hbm, ⟨6, _⟩ => ⟨S8x65472, .i1⟩
  | .hbm, ⟨7, _⟩ => ⟨S8x65472, .f32⟩
  | .hbm, ⟨8, _⟩ => ⟨S8x65472, .i32⟩
  | .hbm, ⟨9, _⟩ => ⟨S_, .i32⟩
  | .hbm, ⟨10, _⟩ => ⟨S_, .i32⟩
  | .hbm, ⟨11, _⟩ => ⟨S8x65472, .i32⟩
  | .hbm, ⟨12, _⟩ => ⟨S_, .i32⟩
  | .hbm, ⟨13, _⟩ => ⟨S8x65472, .i32⟩
  | .hbm, ⟨14, _⟩ => ⟨S8x65472, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S8x65472, .i32⟩
  | .hbm, ⟨19, _⟩ => ⟨S8x65472, .i32⟩
  | .hbm, ⟨20, _⟩ => ⟨S_, .i32⟩
  | .hbm, ⟨21, _⟩ => ⟨S8x65472, .i32⟩
  | .hbm, ⟨22, _⟩ => ⟨S8x65472, .i32⟩
  | .hbm, ⟨23, _⟩ => ⟨S8x65472x1, .i32⟩
  | .hbm, ⟨24, _⟩ => ⟨S8x65472x4, .i32⟩
  | .hbm, ⟨25, _⟩ => ⟨S_, .i32⟩
  | .hbm, ⟨26, _⟩ => ⟨S8x65472x4, .i32⟩
  | .hbm, ⟨27, _⟩ => ⟨S8x65472x4, .i1⟩
  | .hbm, ⟨28, _⟩ => ⟨S_, .i32⟩
  | .hbm, ⟨29, _⟩ => ⟨S8x65472x4, .i32⟩
  | .hbm, ⟨30, _⟩ => ⟨S8x65472x4, .i32⟩
  | .hbm, ⟨31, _⟩ => ⟨S8x65472x4, .i32⟩
  | .hbm, ⟨32, _⟩ => ⟨S8x65472x4x1, .i32⟩
  | .hbm, ⟨33, _⟩ => ⟨S1, .i32⟩
  | .hbm, ⟨34, _⟩ => ⟨S_, .i32⟩
  | .hbm, ⟨35, _⟩ => ⟨S8x65472x4x1, .i32⟩
  | .hbm, ⟨36, _⟩ => ⟨S8x65472x4x1, .i1⟩
  | .hbm, ⟨37, _⟩ => ⟨S1x1x1x1, .i32⟩
  | .hbm, ⟨38, _⟩ => ⟨S8x65472x4x1, .i32⟩
  | .hbm, ⟨39, _⟩ => ⟨S8x65472x4x1, .i1⟩
  | .hbm, ⟨40, _⟩ => ⟨S8x65472x4x1, .i1⟩
  | .hbm, ⟨41, _⟩ => ⟨S_, .i1⟩
  | .hbm, ⟨42, _⟩ => ⟨S8x65472x4, .i1⟩
  | .hbm, ⟨43, _⟩ => ⟨S8x65472x4, .f32⟩
  | .hbm, ⟨44, _⟩ => ⟨S_, .f32⟩
  | .hbm, ⟨45, _⟩ => ⟨S8x65472x4, .f32⟩
  | .hbm, ⟨46, _⟩ => ⟨S8x65472x4, .f32⟩
  | .hbm, ⟨47, _⟩ => ⟨S8x65472x4, .f32⟩
  | .hbm, ⟨48, _⟩ => ⟨S8x65472x4, .f32⟩
  | .hbm, ⟨49, _⟩ => ⟨S_, .f32⟩
  | .hbm, ⟨50, _⟩ => ⟨S8x65472x4, .f32⟩
  | .hbm, ⟨51, _⟩ => ⟨S8x65472x4, .i1⟩
  | .hbm, ⟨52, _⟩ => ⟨S8x65472x4, .f32⟩
  | .hbm, ⟨53, _⟩ => ⟨S_, .f32⟩
  | .hbm, ⟨54, _⟩ => ⟨S8x65472x4, .f32⟩
  | .hbm, ⟨55, _⟩ => ⟨S8x65472x4, .f32⟩
  | .hbm, ⟨56, _⟩ => ⟨S8x65472x4, .f32⟩
  | .hbm, ⟨57, _⟩ => ⟨S8x65472x4, .f32⟩
  | .hbm, ⟨58, _⟩ => ⟨S_, .f32⟩
  | .hbm, ⟨59, _⟩ => ⟨S8x65472x4, .f32⟩
  | .hbm, ⟨60, _⟩ => ⟨S8x65472x4, .f32⟩
  | .hbm, ⟨61, _⟩ => ⟨S_, .f32⟩
  | .hbm, ⟨62, _⟩ => ⟨S8x65472x4, .f32⟩
  | .hbm, ⟨63, _⟩ => ⟨S8x65472x4, .f32⟩
  | .hbm, ⟨64, _⟩ => ⟨S8x65472x4, .f32⟩
  | .hbm, ⟨65, _⟩ => ⟨S8x65472x4, .f32⟩
  | .hbm, ⟨66, _⟩ => ⟨S8x65472x1, .f32⟩
  | .hbm, ⟨67, _⟩ => ⟨S8x65472x4, .f32⟩
  | .hbm, ⟨68, _⟩ => ⟨S8x65472x4, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S8x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_c : Ref sig .tc := ⟨.hbm, 9, rfl⟩
abbrev main_call0_call0_v0 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_cst_3 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_v22 : Ref sig .tc := ⟨.hbm, 60, rfl⟩
abbrev main_cst_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_6 : Ref sig .tc := ⟨.hbm, 69, rfl⟩
abbrev main_v30 : Ref sig .tc := ⟨.hbm, 70, rfl⟩
abbrev main_cst_7 : Ref sig .tc := ⟨.hbm, 71, rfl⟩
abbrev main_v31 : Ref sig .tc := ⟨.hbm, 72, rfl⟩
abbrev main_cst_8 : Ref sig .tc := ⟨.hbm, 73, rfl⟩
abbrev main_v32 : Ref sig .tc := ⟨.hbm, 74, rfl⟩
abbrev main_cst_9 : Ref sig .tc := ⟨.hbm, 75, rfl⟩
abbrev main_v33 : Ref sig .tc := ⟨.hbm, 76, rfl⟩
abbrev main_v34 : Ref sig .tc := ⟨.hbm, 77, rfl⟩
abbrev main_cst_10 : Ref sig .tc := ⟨.hbm, 78, rfl⟩
abbrev main_v35 : Ref sig .tc := ⟨.hbm, 79, rfl⟩

abbrev nD : Nat := 1
abbrev τ : Topo := Topo.v7x

variable {F : FTy → Type} [FloatOps F]
-- ==== Proof.Values.lean ====
/-
  What the kernel computes, as plain functions of the three flat arrays it is given: each tile's slices of them, its
  count of matching anchors, the base rank it starts from, its running state over the groups of sixteen anchors, and
  the array of partial results all tiles write. Stated over any float values.
-/
module

public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- Position `n` of a flat array of `N` elements, wrapped around so that it is defined for every number. -/
def at1 {N : ℕ} [NeZero N] (n : ℕ) : (⟨1, ![N]⟩ : Shape).Idx :=
  fun a => ⟨n % N, by
    have : a = (0 : Fin 1) := Subsingleton.elim _ _
    subst this
    exact Nat.mod_lt _ (Nat.pos_of_ne_zero (NeZero.ne N))⟩

theorem at1_val {N : ℕ} [NeZero N] {n : ℕ} (h : n < N) (a : Fin 1) : ((at1 (N := N) n) a : ℕ) = n := Nat.mod_eq_of_lt h

/-- A position of a flat array is the one its number names. -/
theorem eq_at1 {N : ℕ} [NeZero N] (x : (⟨1, ![N]⟩ : Shape).Idx) {n : ℕ} (h : (x 0 : ℕ) = n) : x = at1 n := by
  funext a
  have ha : a = (0 : Fin 1) := Subsingleton.elim _ _
  subst ha
  apply Fin.ext
  have hx : (x 0 : ℕ) < N := (x 0).isLt
  show (x 0 : ℕ) = n % N
  rw [Nat.mod_eq_of_lt (h ▸ hx), h]

variable (F) in
/-- The three flat arrays the SparseCore call is given: matches, target boxes, predicted boxes. -/
structure Ins where
  M : Vec F S523776 .i32
  T : Vec F S16384 .f32
  B : Vec F S2095104 .f32

/-! ## The slices of tile `w` -/

/-- The matches of tile `w`. -/
def mv (I : Ins F) (w : ℕ) : Vec F S16368 .i32 := fun x => I.M (at1 (N := 523776) (16368 * w + (x 0).val))
/-- The predicted boxes of tile `w`. -/
def bv (I : Ins F) (w : ℕ) : Vec F S65472 .f32 := fun x => I.B (at1 (N := 2095104) (65472 * w + (x 0).val))
/-- The target boxes of the row tile `w` works on. -/
def tv (I : Ins F) (w : ℕ) : Vec F S2048 .f32 := fun x => I.T (at1 (N := 16384) (2048 * (w / 4) + (x 0).val))

/-- Group `k` of sixteen matches. -/
def grp (f : Vec F S16368 .i32) (k : ℕ) : Vec F S16 .i32 := fun x => f (at1 (N := 16368) (16 * k + (x 0).val))

/-! ## The count -/

/-- The number of matches of a group, as the kernel takes it: the last prefix sum. -/
def gcount (v : Vec F S16 .i32) : BitVec 32 := extractAt ![15] (k0_pay15 (F := F) v) inpos_S16_p15

/-- The count over the first `k` groups. -/
def cntN (f : Vec F S16368 .i32) : ℕ → BitVec 32
  | 0 => 0#32
  | k + 1 => Scalar.addi (cntN f k) (gcount (grp f k))

/-- Tile `w`'s count. -/
def cnt (I : Ins F) (w : ℕ) : BitVec 32 := cntN (mv I w) 1023

/-- What the tiles of SparseCore `c` leave in its shared scratch: row `i` is tile `i`'s count, in every lane. -/
def shv (I : Ins F) (c : ℕ) : Vec F S16x16 .i32 := fun x => k0_pay16 (cnt I (16 * c + (x 0).val)) (at1 (N := 16) (x 1).val)

/-! ## The base rank -/

/-- The lane numbers. -/
abbrev lanes : IVec S16 32 := iota .scVector S16 32 [0] iota_S16_d0_w32_scVector

/-- Of the four tiles of a row, the counts of those before tile `w`, summed. -/
def base (I : Ins F) (w : ℕ) : IVec S16 32 :=
  k0_pay19 (F := F) (BitVec.ofNat 32 (w % 4)) (k0_pay17 (F := F) (BitVec.ofNat 32 (w % 4)) (k0_pay16 (cnt I (w / 4 * 4))))
    (k0_pay16 (cnt I (w / 4 * 4 + 1))) k0_pay18 (k0_pay16 (cnt I (w / 4 * 4 + 2)))

/-! ## The losses of a group -/

/-- A gather out of a flat array at a vector of positions. -/
def gat {N : ℕ} [NeZero N] (f : Vec F ⟨1, ![N]⟩ .f32) (ix : IVec S16 32) : Vec F S16 .f32 := fun x => f (at1 (ix x).toNat)

/-- The losses of group `k` added to `acc`: `b` the base rank, `run` the matches before the group. -/
def hot (t : Vec F S2048 .f32) (p : Vec F S65472 .f32) (b : IVec S16 32) (v : Vec F S16 .i32) (run : BitVec 32) (k : BitVec 32)
    (acc : FVec F S16 .f32) : FVec F S16 .f32 :=
  k0_pay24 (F := F) acc v
    (k0_pay11 (F := F)
      (k0_pay6 (F := F) (gat t (k0_pay4 b run (k0_pay22 (F := F) v))) (gat p (k0_pay5 lanes k)))
      (gat t (k0_pay7 b run (k0_pay22 (F := F) v))) (gat p (k0_pay8 (k0_pay3 lanes k) 1#32))
      (gat t (k0_pay9 (k0_pay2 b run (k0_pay22 (F := F) v)))) (gat p (k0_pay10 (k0_pay3 lanes k))))
    (k0_pay14 (F := F) (gat t (k0_pay12 (k0_pay2 b run (k0_pay22 (F := F) v)))) (gat p (k0_pay13 (k0_pay3 lanes k))))

/-- The number of matches of a group, as the second loop takes it. -/
def gcount2 (v : Vec F S16 .i32) : BitVec 32 := extractAt ![15] (k0_pay23 (F := F) v) inpos_S16_p15

/-- The second loop's state after `k` groups: the matches so far and the sixteen accumulators. -/
def grpN (f : Vec F S16368 .i32) (t : Vec F S2048 .f32) (p : Vec F S65472 .f32) (b : IVec S16 32) : ℕ → BitVec 32 × FVec F S16 .f32
  | 0 => (0#32, k0_pay20 (F := F))
  | k + 1 =>
    (Scalar.addi (grpN f t p b k).1 (gcount2 (grp f k)),
      if k0_cond1 (gcount2 (grp f k)) = 1#1 then
        hot t p b (grp f k) (grpN f t p b k).1 (Scf.iv 0#32 1#32 k) (grpN f t p b k).2
      else (grpN f t p b k).2)

/-- Tile `w`'s sixteen partial sums. -/
def acc (I : Ins F) (w : ℕ) : FVec F S16 .f32 := (grpN (mv I w) (tv I w) (bv I w) (base I w) 1023).2

/-- The array of partial results: rows 0 to 31 the tiles' partial sums, rows 32 to 63 their counts. -/
def outv (I : Ins F) : Vec F S64x16 .f32 := fun x =>
  if (x 0).val < 32 then acc I (x 0).val (at1 (N := 16) (x 1).val) else k0_pay1 (F := F) (cnt I ((x 0).val - 32)) (at1 (N := 16) (x 1).val)

end Cert.Proof

end
-- ==== Proof.Setup.lean ====
/-
  The kernel's launch: the ghost resources (the handshakes', the barrier cells', the finishing call's and the
  transfers'), the arrays the tiles are handed, the subcore barrier's schedule, and what the call's handshakes carry.
  Every tile reads the three flat inputs through a share of its own, writes its two rows of the array of partial
  results, and fills its row of its SparseCore's shared scratch; at the barrier it hands every tile of its SparseCore a
  share of that row, holding its count.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareDrop shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost resources -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The finishing call's cells. -/
def EP : Emb UP (MT nD τ sig (HIx 1) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays -/

abbrev mLoc (d : Dev nD) : Loc nD τ sig := (SparseCore.T d).loc main_v0
abbrev tLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-- Row `n` of the array of partial results, and row `i` of the shared scratch. -/
def orow (n : ℕ) : Finset S64x16.Idx := Finset.univ.filter fun x => (x 0).val = n
def srow (i : ℕ) : Finset S16x16.Idx := Finset.univ.filter fun x => (x 0).val = i

theorem nSub_eq : τ.nSub = 16 := rfl
theorem nSC_eq : τ.nSC = 2 := rfl

/-- The number of the tile `(c, i)` among all thirty-two. -/
abbrev wid (c : ℕ) (i : ℕ) : ℕ := 16 * c + i

variable [FloatOps F] (I : Dev nD → Ins F)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

/-- Whether a cell is a tile's barrier semaphore. -/
def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What SparseCore `c`'s shared scratch holds once every tile of it has written its row. -/
abbrev shf (d : Dev nD) (c : Fin τ.nSC) : Buf (Elt F) (shLoc d c) := shv (I d) c.val

/-- Row `i` of the shared scratch, filled, at share `q`. -/
abbrev shRowAt (d : Dev nD) (c : Fin τ.nSC) (i : ℕ) (q : PosShare TreeShare) : sProp 𝕄 := shLoc d c ↦[srow i]{q} shf I d c

/-- What the duty of tile `n` in tile `j`'s round hands over: its row, filled, at the share kept for `j`. -/
def bPay (g : GSem nD τ sig) (n : ℕ) : sProp 𝕄 :=
  match g with
  | ((d, .scVector c j), _) => shRowAt I d c n (shareTokN fullShare j.val)
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay I g n
  amount_pos _ _ _ _ := Nat.one_pos

instance bRd_payload_storable (g : GSem nD τ sig) (r n : ℕ) : BI.Storable (upEmb : UEmb _ 𝕄) ((bRd I).payload g r n) := by
  show BI.Storable upEmb (bPay I g n)
  unfold bPay
  rcases g with ⟨⟨d, _ | c | ⟨c, i⟩⟩, sm⟩ <;> dsimp only <;> infer_instance

theorem bRd_duties₀ (d : Dev nD) (c : Fin τ.nSC) (j : Fin τ.nSub) : (bRd I).duties (bcell d c j) 0 = (Finset.univ : Finset (Fin τ.nSub)).image Fin.val := by
  simp [bRd, isBar]
theorem bRd_duties_succ (g : GSem nD τ sig) (r : ℕ) (hr : 1 ≤ r) : (bRd I).duties g r = ∅ :=
  if_neg fun h => absurd h.2 (Nat.ne_of_gt hr)
theorem bRd_mem₀ (d : Dev nD) (c : Fin τ.nSC) (j i : Fin τ.nSub) : i.val ∈ (bRd I).duties (bcell d c j) 0 := by
  rw [bRd_duties₀]; exact Finset.mem_image_of_mem _ (Finset.mem_univ i)
theorem bRd_expect (d : Dev nD) (c : Fin τ.nSC) (j : Fin τ.nSub) : 0 + grid0.bound 1 = (bRd I).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile of SparseCore `c` owes for the barrier: a unit on every tile's cell of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the units of its own. -/
def bkit (d : Dev nD) (c : Fin τ.nSC) (i : Fin τ.nSub) : sProp 𝕄 :=
  iprop((∃ κ : GSem nD τ sig → ℕ, bigSep Finset.univ fun j : Fin (grid0.bound 1) =>
      cellInv EB (bRd I) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- Tile `w`'s shares of the three flat inputs. -/
def ins (d : Dev nD) (w : ℕ) : sProp 𝕄 :=
  iprop((mLoc d ↦{shareTokN fullShare w} (I d).M) ∗ (tLoc d ↦{shareTokN fullShare w} (I d).T) ∗ (bLoc d ↦{shareTokN fullShare w} (I d).B))

/-- Tile `w`'s two rows of the array of partial results, before the call. -/
def outs0 (d : Dev nD) (w : ℕ) : sProp 𝕄 :=
  iprop((∃ f : Buf (Elt F) (oLoc d), oLoc d ↦[orow w]{fullShare} f) ∗ ∃ f : Buf (Elt F) (oLoc d), oLoc d ↦[orow (32 + w)]{fullShare} f)

/-- The array of partial results once every tile has written its rows. -/
abbrev of (d : Dev nD) : Buf (Elt F) (oLoc d) := outv (I d)

/-- Tile `w`'s two rows of the array of partial results, after the call. -/
def outs1 (d : Dev nD) (w : ℕ) : sProp 𝕄 :=
  iprop((oLoc d ↦[orow w]{fullShare} of I d) ∗ oLoc d ↦[orow (32 + w)]{fullShare} of I d)

/-- What tile `(c, i)` brings back: its input shares, its rows written, its barrier semaphore at zero. -/
def back (d : Dev nD) (c : Fin τ.nSC) (i : Fin τ.nSub) : sProp 𝕄 :=
  iprop((ins I d (wid c.val i.val) ∗ outs1 I d (wid c.val i.val)) ∗ semVal (bcell d c i) 0)

/-- What it brings back of the shared scratch: what is left of its own row, and the share of the whole it was handed. -/
def shBack (d : Dev nD) (c : Fin τ.nSC) (i : Fin τ.nSub) : sProp 𝕄 :=
  iprop(shRowAt I d c i.val (shareDrop fullShare 16) ∗ shLoc d c ↦[Finset.univ]{shareTokN fullShare i.val} shf I d c)

/-- Row `i` of the shared scratch before the call. -/
def sh0 (d : Dev nD) (c : Fin τ.nSC) (i : Fin τ.nSub) : sProp 𝕄 := iprop(∃ f : Buf (Elt F) (shLoc d c), shLoc d c ↦[srow i.val]{fullShare} f)

instance ins_storable (d : Dev nD) (w : ℕ) : BI.Storable (upEmb : UEmb _ 𝕄) (ins I d w) := by unfold ins; infer_instance
instance outs0_storable (d : Dev nD) (w : ℕ) : BI.Storable (upEmb : UEmb _ 𝕄) (outs0 (F := F) d w) := by unfold outs0; infer_instance
instance outs1_storable (d : Dev nD) (w : ℕ) : BI.Storable (upEmb : UEmb _ 𝕄) (outs1 I d w) := by unfold outs1; infer_instance
instance back_storable (d : Dev nD) (c : Fin τ.nSC) (i : Fin τ.nSub) : BI.Storable (upEmb : UEmb _ 𝕄) (back I d c i) := by unfold back; infer_instance
instance shBack_storable (d : Dev nD) (c : Fin τ.nSC) (i : Fin τ.nSub) : BI.Storable (upEmb : UEmb _ 𝕄) (shBack I d c i) := by unfold shBack; infer_instance
instance sh0_storable (d : Dev nD) (c : Fin τ.nSC) (i : Fin τ.nSub) : BI.Storable (upEmb : UEmb _ 𝕄) (sh0 (F := F) d c i) := by unfold sh0; infer_instance

set_option backward.proofsInPublic true in
/-- The call hands each SparseCore, per tile, its input shares and its rows of the result, and takes them back with the
    rows written; each task also takes its row of the shared scratch and brings it back as it left it. -/
def P : (K (F := F)).Pay (nD := nD) (Val := Elt F) (Name := ℕ) (U := UU) where
  st := fun q d c => match q with
    | 0 => bigSep Finset.univ fun i : Fin ((K (F := F)).nSub 0) => iprop(ins I d (wid (coreOf c).val i.val) ∗ outs0 d (wid (coreOf c).val i.val))
  dn := fun q d c => match q with
    | 0 => bigSep Finset.univ fun i : Fin ((K (F := F)).nSub 0) => back I d (coreOf c) ((K (F := F)).sub 0 i)
  go := fun q d c i => match q with
    | 0 => iprop((ins I d (wid (coreOf c).val i.val) ∗ outs0 d (wid (coreOf c).val i.val)) ∗ sh0 d (coreOf c) ((K (F := F)).sub 0 i))
  td := fun q d c i => match q with
    | 0 => iprop(back I d (coreOf c) ((K (F := F)).sub 0 i) ∗ shBack I d (coreOf c) ((K (F := F)).sub 0 i))
  x := fun _ thr => match thr with
    | (d, .scVector c i) => bkit I d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P I).IsStorable where
  st q d c := match q with
    | 0 => (inferInstance : BI.Storable (upEmb : UEmb _ 𝕄) (bigSep Finset.univ fun i : Fin ((K (F := F)).nSub 0) => iprop(ins I d (wid (coreOf c).val i.val) ∗ outs0 d (wid (coreOf c).val i.val))))
  dn q d c := match q with
    | 0 => (inferInstance : BI.Storable (upEmb : UEmb _ 𝕄) (bigSep Finset.univ fun i : Fin ((K (F := F)).nSub 0) => back I d (coreOf c) ((K (F := F)).sub 0 i)))
  go q d c i := match q with
    | 0 => (inferInstance : BI.Storable (upEmb : UEmb _ 𝕄) iprop((ins I d (wid (coreOf c).val i.val) ∗ outs0 d (wid (coreOf c).val i.val)) ∗ sh0 d (coreOf c) ((K (F := F)).sub 0 i)))
  td q d c i := match q with
    | 0 => (inferInstance : BI.Storable (upEmb : UEmb _ 𝕄) iprop(back I d (coreOf c) ((K (F := F)).sub 0 i) ∗ shBack I d (coreOf c) ((K (F := F)).sub 0 i)))

end Cert.Proof

end
-- ==== Proof.Geom.lean ====
/-
  Where a tile's transfers reach: the slices of the inputs it copies read as its slices of the values, and the rows it
  writes and reads are the rows its number names.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.SL Idealize.SL.RA Idealize.SL.BI

variable {F : FTy → Type}

local notation "v0V" => (Memref.whole Cert.KernelIdeal.main_v0_scv : Memref Cert.KernelIdeal.sig Kind.scVector Space.hbm Cert.KernelIdeal.S523776 EltTy.i32)
local notation "v1V" => (Memref.whole Cert.KernelIdeal.main_v1_scv : Memref Cert.KernelIdeal.sig Kind.scVector Space.hbm Cert.KernelIdeal.S16384 EltTy.f32)
local notation "v2V" => (Memref.whole Cert.KernelIdeal.main_v2_scv : Memref Cert.KernelIdeal.sig Kind.scVector Space.hbm Cert.KernelIdeal.S2095104 EltTy.f32)
local notation "v3V" => (Memref.whole Cert.KernelIdeal.main_v3_scv : Memref Cert.KernelIdeal.sig Kind.scVector Space.hbm Cert.KernelIdeal.S64x16 EltTy.f32)
local notation "shV" => (Memref.whole Cert.KernelIdeal.cc0_scratch5 : Memref Cert.KernelIdeal.sig Kind.scVector Space.shared Cert.KernelIdeal.S16x16 EltTy.i32)

/-- The SparseCore and the tile of a grid point, and its number. -/
abbrev cV (L : grid0.Coords) : Fin τ.nSC := (L 0).castLE hcore0
abbrev jV (L : grid0.Coords) : Fin τ.nSub := (L 1).castLE hsub0
abbrev wL (L : grid0.Coords) : ℕ := wid (L 0).val (L 1).val

theorem L0_lt (L : grid0.Coords) : (L 0).val < 2 := (L 0).isLt
theorem L1_lt (L : grid0.Coords) : (L 1).val < 16 := (L 1).isLt

/-! ## The slices -/

abbrev mSl (L : grid0.Coords) : Memref sig .scVector .hbm S16368 .i32 := (v0V).slice (Rect.unit (s := S523776) (k0_off2 L) S16368.size (k0_off2_inb L)) (fun _ => rfl)
abbrev tSl (L : grid0.Coords) : Memref sig .scVector .hbm S2048 .f32 := (v1V).slice (Rect.unit (s := S16384) (k0_off3 L) S2048.size (k0_off3_inb L)) (fun _ => rfl)
abbrev bSl (L : grid0.Coords) : Memref sig .scVector .hbm S65472 .f32 := (v2V).slice (Rect.unit (s := S2095104) (k0_off1 L) S65472.size (k0_off1_inb L)) (fun _ => rfl)
/-- The tile's row of partial sums, and of counts. -/
abbrev oSl (L : grid0.Coords) : Memref sig .scVector .hbm S16 .f32 :=
  ((v3V).slice (Rect.unit (s := S64x16) (k0_off8 L) S1x16.size (k0_off8_inb L)) (fun _ => rfl)).squeeze S16 squeezes_S1x16_S16
abbrev oSl2 (L : grid0.Coords) : Memref sig .scVector .hbm S16 .f32 :=
  ((v3V).slice (Rect.unit (s := S64x16) (k0_off9 L) S1x16.size (k0_off9_inb L)) (fun _ => rfl)).squeeze S16 squeezes_S1x16_S16
/-- The tile's own row of the shared scratch, and one of the first three rows of its group of four. -/
abbrev shSl (L : grid0.Coords) : Memref sig .scVector .shared S16 .i32 :=
  ((shV).slice (Rect.unit (s := S16x16) (k0_off5 L) S1x16.size (k0_off5_inb L)) (fun _ => rfl)).squeeze S16 squeezes_S1x16_S16
abbrev shSl2 (L : grid0.Coords) (r : Fin 3) : Memref sig .scVector .shared S16 .i32 :=
  ((shV).slice (Rect.unit (s := S16x16) (k0_off6 L (BitVec.ofNat 32 r.val)) S1x16.size (k0_off6_inb L r)) (fun _ => rfl)).squeeze S16 squeezes_S1x16_S16

set_option maxRecDepth 4096 in
theorem off3_eq : ∀ L : grid0.Coords, k0_off3 L 0 = 2048 * (wL L / 4) := by decide +kernel
set_option maxRecDepth 4096 in
theorem off6_0 : ∀ (L : grid0.Coords) (r : Fin 3), k0_off6 L (BitVec.ofNat 32 r.val) 0 = (L 1).val / 4 * 4 + r.val := by decide +kernel
set_option maxRecDepth 4096 in
theorem off6_1 : ∀ (L : grid0.Coords) (r : Fin 3), k0_off6 L (BitVec.ofNat 32 r.val) 1 = 0 := by decide +kernel

/-! ## What the slices read -/

theorem read_mSl (I : Ins F) (L : grid0.Coords) : (mSl L).view.read (Elt F) I.M = mv I (wL L) := by
  funext x
  refine congrArg I.M (eq_at1 _ ?_)
  show k0_off2 L 0 + 1 * (x 0).val = _
  rw [k0_off2_eq]
  show 261888 * (L 0).val + 16368 * (L 1).val + 1 * (x 0).val = 16368 * (16 * (L 0).val + (L 1).val) + (x 0).val
  omega

theorem read_bSl (I : Ins F) (L : grid0.Coords) : (bSl L).view.read (Elt F) I.B = bv I (wL L) := by
  funext x
  refine congrArg I.B (eq_at1 _ ?_)
  show k0_off1 L 0 + 1 * (x 0).val = _
  rw [k0_off1_eq]
  show 1047552 * (L 0).val + 65472 * (L 1).val + 1 * (x 0).val = 65472 * (16 * (L 0).val + (L 1).val) + (x 0).val
  omega

theorem read_tSl (I : Ins F) (L : grid0.Coords) : (tSl L).view.read (Elt F) I.T = tv I (wL L) := by
  funext x
  refine congrArg I.T (eq_at1 _ ?_)
  show k0_off3 L 0 + 1 * (x 0).val = _
  rw [off3_eq]; omega

/-- A group of sixteen matches, as either loop loads it. -/
theorem read_grp (f : Vec F S16368 .i32) (k : Fin k0_t1_loop.trips) :
    (Memref.whole Cert.KernelIdeal.cc0_scratch0 : Memref sig .scVector .vmem S16368 .i32).view.readAt (Elt F)
      (Rect.unit (s := S16368) (k0_off4 k) S16.size (k0_off4_inb k)).toLoadRect f = grp f k.val := by
  funext x
  refine congrArg f (eq_at1 _ ?_)
  have e : k0_off4 k 0 = 16 * k.val := by rw [k0_off4_eq]; rfl
  show k0_off4 k 0 + 1 * (x 0).val = 16 * k.val + (x 0).val
  omega

theorem read_grp2 (f : Vec F S16368 .i32) (k : Fin k0_t2_loop.trips) :
    (Memref.whole Cert.KernelIdeal.cc0_scratch0 : Memref sig .scVector .vmem S16368 .i32).view.readAt (Elt F)
      (Rect.unit (s := S16368) (k0_off7 k) S16.size (k0_off7_inb k)).toLoadRect f = grp f k.val := by
  funext x
  refine congrArg f (eq_at1 _ ?_)
  have e : k0_off7 k 0 = 16 * k.val := by rw [k0_off7_eq]; rfl
  show k0_off7 k 0 + 1 * (x 0).val = 16 * k.val + (x 0).val
  omega

/-- Row `n`, lane `j` of the shared scratch. -/
abbrev at16 (n : ℕ) (hn : n < 16) (x : S16.Idx) : S16x16.Idx := fun | 0 => ⟨n, hn⟩ | 1 => ⟨(x 0).val, (x 0).isLt⟩
abbrev at64 (n : ℕ) (hn : n < 64) (x : S16.Idx) : S64x16.Idx := fun | 0 => ⟨n, hn⟩ | 1 => ⟨(x 0).val, (x 0).isLt⟩

theorem emb_oSl (L : grid0.Coords) (x : S16.Idx) :
    (oSl L).view.emb x = at64 (wL L) (by have := L0_lt L; have := L1_lt L; unfold wL wid; omega) x := by
  show (Rect.unit (s := S64x16) (k0_off8 L) S1x16.size (k0_off8_inb L)).emb (Shape.reshapeEquiv squeezes_S1x16_S16.numel_eq x) = _
  rw [show Shape.reshapeEquiv squeezes_S1x16_S16.numel_eq x = Fin.cons ⟨0, Nat.one_pos⟩ x from Shape.reshapeEquiv_cons_one (d := ![16]) _ x]
  funext a; apply Fin.ext
  match a with
  | 0 => show k0_off8 L 0 + 1 * 0 = wL L; rw [k0_off8_eq]; rfl
  | 1 => show k0_off8 L 1 + 1 * (x 0).val = (x 0).val; rw [k0_off8_eq]; show 0 + 1 * (x 0).val = _; omega

theorem emb_oSl2 (L : grid0.Coords) (x : S16.Idx) :
    (oSl2 L).view.emb x = at64 (32 + wL L) (by have := L0_lt L; have := L1_lt L; unfold wL wid; omega) x := by
  show (Rect.unit (s := S64x16) (k0_off9 L) S1x16.size (k0_off9_inb L)).emb (Shape.reshapeEquiv squeezes_S1x16_S16.numel_eq x) = _
  rw [show Shape.reshapeEquiv squeezes_S1x16_S16.numel_eq x = Fin.cons ⟨0, Nat.one_pos⟩ x from Shape.reshapeEquiv_cons_one (d := ![16]) _ x]
  funext a; apply Fin.ext
  match a with
  | 0 => show k0_off9 L 0 + 1 * 0 = 32 + wL L; rw [k0_off9_eq]; show 16 * (L 0).val + (L 1).val + 32 + 1 * 0 = 32 + (16 * (L 0).val + (L 1).val); omega
  | 1 => show k0_off9 L 1 + 1 * (x 0).val = (x 0).val; rw [k0_off9_eq]; show 0 + 1 * (x 0).val = _; omega

theorem emb_shSl (L : grid0.Coords) (x : S16.Idx) : (shSl L).view.emb x = at16 (L 1).val (L1_lt L) x := by
  show (Rect.unit (s := S16x16) (k0_off5 L) S1x16.size (k0_off5_inb L)).emb (Shape.reshapeEquiv squeezes_S1x16_S16.numel_eq x) = _
  rw [show Shape.reshapeEquiv squeezes_S1x16_S16.numel_eq x = Fin.cons ⟨0, Nat.one_pos⟩ x from Shape.reshapeEquiv_cons_one (d := ![16]) _ x]
  funext a; apply Fin.ext
  match a with
  | 0 => show k0_off5 L 0 + 1 * 0 = (L 1).val; rw [k0_off5_eq]; rfl
  | 1 => show k0_off5 L 1 + 1 * (x 0).val = (x 0).val; rw [k0_off5_eq]; show 0 + 1 * (x 0).val = _; omega

theorem emb_shSl2 (L : grid0.Coords) (r : Fin 3) (x : S16.Idx) :
    (shSl2 L r).view.emb x = at16 ((L 1).val / 4 * 4 + r.val) (by have := L1_lt L; have := r.isLt; omega) x := by
  show (Rect.unit (s := S16x16) (k0_off6 L (BitVec.ofNat 32 r.val)) S1x16.size (k0_off6_inb L r)).emb (Shape.reshapeEquiv squeezes_S1x16_S16.numel_eq x) = _
  rw [show Shape.reshapeEquiv squeezes_S1x16_S16.numel_eq x = Fin.cons ⟨0, Nat.one_pos⟩ x from Shape.reshapeEquiv_cons_one (d := ![16]) _ x]
  funext a; apply Fin.ext
  match a with
  | 0 => show k0_off6 L (BitVec.ofNat 32 r.val) 0 + 1 * 0 = _; rw [off6_0]; rfl
  | 1 => show k0_off6 L (BitVec.ofNat 32 r.val) 1 + 1 * (x 0).val = (x 0).val; rw [off6_1]; omega

/-! ## The rows written -/

/-- The rows of a slice whose elements are row `n`'s. -/
theorem set_oSl (L : grid0.Coords) : (oSl L).view.set = orow (wL L) := by
  ext y
  unfold orow
  rw [View.set, Finset.mem_map, Finset.mem_filter]
  constructor
  · rintro ⟨x, -, rfl⟩; rw [emb_oSl]; exact ⟨Finset.mem_univ _, rfl⟩
  · rintro ⟨-, h⟩
    refine ⟨fun _ => ⟨(y 1).val, by have : (y 1).val < 16 := (y 1).isLt; rename_i a; have ha : a = (0 : Fin 1) := Subsingleton.elim _ _; subst ha; exact this⟩, Finset.mem_univ _, ?_⟩
    rw [emb_oSl]; funext a; apply Fin.ext
    match a with
    | 0 => exact h.symm
    | 1 => rfl

theorem set_oSl2 (L : grid0.Coords) : (oSl2 L).view.set = orow (32 + wL L) := by
  ext y
  unfold orow
  rw [View.set, Finset.mem_map, Finset.mem_filter]
  constructor
  · rintro ⟨x, -, rfl⟩; rw [emb_oSl2]; exact ⟨Finset.mem_univ _, rfl⟩
  · rintro ⟨-, h⟩
    refine ⟨fun _ => ⟨(y 1).val, by have : (y 1).val < 16 := (y 1).isLt; rename_i a; have ha : a = (0 : Fin 1) := Subsingleton.elim _ _; subst ha; exact this⟩, Finset.mem_univ _, ?_⟩
    rw [emb_oSl2]; funext a; apply Fin.ext
    match a with
    | 0 => exact h.symm
    | 1 => rfl

theorem set_shSl (L : grid0.Coords) : (shSl L).view.set = srow (L 1).val := by
  ext y
  unfold srow
  rw [View.set, Finset.mem_map, Finset.mem_filter]
  constructor
  · rintro ⟨x, -, rfl⟩; rw [emb_shSl]; exact ⟨Finset.mem_univ _, rfl⟩
  · rintro ⟨-, h⟩
    refine ⟨fun _ => ⟨(y 1).val, by have : (y 1).val < 16 := (y 1).isLt; rename_i a; have ha : a = (0 : Fin 1) := Subsingleton.elim _ _; subst ha; exact this⟩, Finset.mem_univ _, ?_⟩
    rw [emb_shSl]; funext a; apply Fin.ext
    match a with
    | 0 => exact h.symm
    | 1 => rfl

variable [FloatOps F]

/-- What the tile's rows hold at the end, and its row of the shared scratch, read back. -/
theorem read_oSl (I : Ins F) (L : grid0.Coords) : (oSl L).view.read (Elt F) (outv I) = acc I (wL L) := by
  funext x
  show outv I ((oSl L).view.emb x) = _
  rw [emb_oSl]
  unfold outv
  have h0 := L0_lt L; have h1 := L1_lt L
  show (if wL L < 32 then acc I (wL L) (at1 (x 0).val) else _) = _
  rw [if_pos (show wL L < 32 by unfold wL wid; omega), ← eq_at1 x rfl]

theorem read_oSl2 (I : Ins F) (L : grid0.Coords) : (oSl2 L).view.read (Elt F) (outv I) = k0_pay1 (F := F) (cnt I (wL L)) := by
  funext x
  show outv I ((oSl2 L).view.emb x) = _
  rw [emb_oSl2]
  unfold outv
  show (if 32 + wL L < 32 then _ else k0_pay1 (F := F) (cnt I (32 + wL L - 32)) (at1 (x 0).val)) = _
  rw [if_neg (by omega), Nat.add_sub_cancel_left, ← eq_at1 x rfl]

theorem read_shSl (I : Ins F) (L : grid0.Coords) : (shSl L).view.read (Elt F) (shv I (L 0).val) = k0_pay16 (cnt I (wL L)) := by
  funext x
  show shv I (L 0).val ((shSl L).view.emb x) = _
  rw [emb_shSl]
  show k0_pay16 (cnt I (16 * (L 0).val + (L 1).val)) (at1 (x 0).val) = _
  rw [← eq_at1 x rfl]

theorem read_shSl2 (I : Ins F) (L : grid0.Coords) (r : Fin 3) :
    (shSl2 L r).view.read (Elt F) (shv I (L 0).val) = k0_pay16 (cnt I (wL L / 4 * 4 + r.val)) := by
  funext x
  show shv I (L 0).val ((shSl2 L r).view.emb x) = _
  rw [emb_shSl2]
  show k0_pay16 (cnt I (16 * (L 0).val + ((L 1).val / 4 * 4 + r.val))) (at1 (x 0).val) = _
  rw [← eq_at1 x rfl, show 16 * (L 0).val + ((L 1).val / 4 * 4 + r.val) = wL L / 4 * 4 + r.val by unfold wL wid; omega]

/-- Contents a row reads the same are the same on it. -/
theorem eqOn_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

end Cert.Proof

end
-- ==== Proof.Group.lean ====
/-
  One turn of the second loop: a group of sixteen anchors. Where the group has a match, the ranks are clipped to the
  row's boxes, so every gather stays inside the tile's copies, and the losses of the group are added; where it has none
  the accumulators are kept.
-/
module

public import proofs.«01_k».proof.Proof.Geom

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "v0V" => (Memref.whole Cert.KernelIdeal.main_v0_scv : Memref Cert.KernelIdeal.sig Kind.scVector Space.hbm Cert.KernelIdeal.S523776 EltTy.i32)
local notation "v1V" => (Memref.whole Cert.KernelIdeal.main_v1_scv : Memref Cert.KernelIdeal.sig Kind.scVector Space.hbm Cert.KernelIdeal.S16384 EltTy.f32)
local notation "v2V" => (Memref.whole Cert.KernelIdeal.main_v2_scv : Memref Cert.KernelIdeal.sig Kind.scVector Space.hbm Cert.KernelIdeal.S2095104 EltTy.f32)
local notation "v3V" => (Memref.whole Cert.KernelIdeal.main_v3_scv : Memref Cert.KernelIdeal.sig Kind.scVector Space.hbm Cert.KernelIdeal.S64x16 EltTy.f32)
local notation "mcV" => (Memref.whole Cert.KernelIdeal.cc0_scratch0 : Memref Cert.KernelIdeal.sig Kind.scVector Space.vmem Cert.KernelIdeal.S16368 EltTy.i32)
local notation "bcV" => (Memref.whole Cert.KernelIdeal.cc0_scratch1 : Memref Cert.KernelIdeal.sig Kind.scVector Space.vmem Cert.KernelIdeal.S65472 EltTy.f32)
local notation "trV" => (Memref.whole Cert.KernelIdeal.cc0_scratch2 : Memref Cert.KernelIdeal.sig Kind.scVector Space.vmem Cert.KernelIdeal.S2048 EltTy.f32)
local notation "siV" => (Memref.whole Cert.KernelIdeal.cc0_scratch3 : Memref Cert.KernelIdeal.sig Kind.scVector Space.vmem Cert.KernelIdeal.S16 EltTy.i32)
local notation "sfV" => (Memref.whole Cert.KernelIdeal.cc0_scratch4 : Memref Cert.KernelIdeal.sig Kind.scVector Space.vmem Cert.KernelIdeal.S16 EltTy.f32)
local notation "shV" => (Memref.whole Cert.KernelIdeal.cc0_scratch5 : Memref Cert.KernelIdeal.sig Kind.scVector Space.shared Cert.KernelIdeal.S16x16 EltTy.i32)

/-! ## The positions the gathers read -/

/-- A word clipped to the range 0 to 511. -/
theorem clip_lt (z : BitVec 32) : (IntOp.minsi 511#32 (IntOp.maxsi 0#32 z)).toNat < 512 := by
  unfold IntOp.minsi IntOp.maxsi
  by_cases h0 : z.slt 0#32 = true
  · rw [if_pos h0]; decide
  · rw [if_neg h0]
    by_cases h : (511#32 : BitVec 32).slt z = true
    · rw [if_pos h]; decide
    · rw [if_neg h]
      simp only [BitVec.slt, decide_eq_true_eq, not_lt] at h h0
      have e1 : (511#32 : BitVec 32).toInt = 511 := by decide
      have e0 : (0#32 : BitVec 32).toInt = 0 := by decide
      rw [e1] at h; rw [e0] at h0
      rw [BitVec.toInt_eq_toNat_cond] at h h0
      split at h <;> omega

theorem pay2_lt (b : IVec S16 32) (n : BitVec 32) (u : IVec S16 32) (x : S16.Idx) : (k0_pay2 b n u x).toNat < 512 := clip_lt _

/-- Four times a clipped rank, and the next three words. -/
theorem rank4 (r : BitVec 32) (hr : r.toNat < 512) (c : BitVec 32) (hc : c.toNat < 4) : (r * 4#32 + c).toNat = 4 * r.toNat + c.toNat := by
  rw [BitVec.toNat_add, BitVec.toNat_mul, show (4#32 : BitVec 32).toNat = 4 from rfl]; omega

/-- The first word of an anchor's box. -/
theorem pay3_eq (k : Fin k0_t2_loop.trips) (x : S16.Idx) : (k0_pay3 lanes (Scf.iv 0#32 1#32 k.val) x).toNat = 64 * k.val + 4 * (x 0).val := by
  have hk : k.val < 1023 := lt_of_lt_of_le k.isLt k0_t2_abs.2.1
  have hx : (x 0).val < 16 := (x 0).isLt
  have e : k0_pay3 lanes (Scf.iv 0#32 1#32 k.val) x = (0#32 + BitVec.ofNat 32 k.val * 1#32) * 64#32 + BitVec.ofNat 32 (x 0).val * 4#32 := by
    show Scf.iv 0#32 1#32 k.val * 64#32 + lanes x * 4#32 = _
    rw [show lanes x = BitVec.ofNat 32 (x 0).val from congrArg (BitVec.ofNat 32) (Nat.zero_add _)]
    rfl
  rw [e]
  simp only [BitVec.toNat_add, BitVec.toNat_mul, BitVec.toNat_ofNat]
  omega

theorem box4 (k : Fin k0_t2_loop.trips) (x : S16.Idx) (c : BitVec 32) (hc : c.toNat < 4) :
    (k0_pay3 lanes (Scf.iv 0#32 1#32 k.val) x + c).toNat = 64 * k.val + 4 * (x 0).val + c.toNat := by
  have hk : k.val < 1023 := lt_of_lt_of_le k.isLt k0_t2_abs.2.1
  have hx : (x 0).val < 16 := (x 0).isLt
  rw [BitVec.toNat_add, pay3_eq]; omega

theorem in_tr (r : IVec S16 32) (hr : ∀ x, (r x).toNat < 512) (c : BitVec 32) (hc : c.toNat < 4) (v : IVec S16 32) (hv : ∀ x, v x = r x * 4#32 + c) :
    ∀ (a : Fin 1) x, ((![v] : Fin 1 → IVec S16 32) a x).toNat < S2048.size a := by
  intro a x
  obtain rfl : a = 0 := Subsingleton.elim _ _
  show (v x).toNat < 2048
  rw [hv, rank4 _ (hr x) _ hc]; have := hr x; omega

theorem in_bc (k : Fin k0_t2_loop.trips) (c : BitVec 32) (hc : c.toNat < 4) (v : IVec S16 32) (hv : ∀ x, v x = k0_pay3 lanes (Scf.iv 0#32 1#32 k.val) x + c) :
    ∀ (a : Fin 1) x, ((![v] : Fin 1 → IVec S16 32) a x).toNat < S65472.size a := by
  intro a x
  obtain rfl : a = 0 := Subsingleton.elim _ _
  have hk : k.val < 1023 := lt_of_lt_of_le k.isLt k0_t2_abs.2.1
  have hx : (x 0).val < 16 := (x 0).isLt
  show (v x).toNat < 65472
  rw [hv, box4 _ _ _ hc]; omega

/-- What a gather reads of a whole array. -/
theorem gather_eq {N : ℕ} [NeZero N] (f : Vec F ⟨1, ![N]⟩ .f32) (v : IVec S16 32) (h : ∀ (a : Fin 1) x, ((![v] : Fin 1 → IVec S16 32) a x).toNat < (⟨1, ![N]⟩ : Shape).size a) :
    loadIdx f ![v] h = gat f v := funext fun x => congrArg f (eq_at1 _ rfl)

variable (d : Dev nD) (L : grid0.Coords)

set_option maxHeartbeats 1000000 in
theorem wp_group (f : Vec F S16368 .i32) (t : Vec F S2048 .f32) (p : Vec F S65472 .f32) (v28 v59 : BitVec 32) (v71 : IVec S16 32) (v74 : Vec F S16 .i32)
    (v75 : IVec S16 32) (v85 : Vec F S16 .i32) (k : Fin k0_t2_loop.trips) (st : BitVec 32 × FVec F S16 .f32)
    (hst : st = grpN f t p (k0_pay19 (F := F) v28 v71 v74 v75 v85) k.val) :
    iprop(((mcV).view.loc (V d (cV L) (jV L)) ↦{fullShare} f) ∗ ((trV).view.loc (V d (cV L) (jV L)) ↦{fullShare} t) ∗ ((bcV).view.loc (V d (cV L) (jV L)) ↦{fullShare} p))
      ⊢ (wp frame (wpE (defs₀ (F := F)) 𝒱₀ (V d (cV L) (jV L)) none) Set.univ
          (k0_t2_body L v0V (Memref.isWhole_whole _) v1V (Memref.isWhole_whole _) v2V (Memref.isWhole_whole _) v3V (Memref.isWhole_whole _)
            mcV (Memref.isWhole_whole _) bcV (Memref.isWhole_whole _) trV (Memref.isWhole_whole _) siV (Memref.isWhole_whole _) sfV (Memref.isWhole_whole _)
            shV (Memref.isWhole_whole _) cc0_scratch6 cc0_scoped0 cc0_scoped1 cc0_scoped2 cc0_scoped3 cc0_scoped4 cc0_scoped5 cc0_scoped6 cc0_scoped7
            v28 lanes v59 v71 v74 v75 v85 k st)
          fun st' => iprop(⌜st' = grpN f t p (k0_pay19 (F := F) v28 v71 v74 v75 v85) (k.val + 1)⌝
            ∗ ((mcV).view.loc (V d (cV L) (jV L)) ↦{fullShare} f) ∗ ((trV).view.loc (V d (cV L) (jV L)) ↦{fullShare} t) ∗ ((bcV).view.loc (V d (cV L) (jV L)) ↦{fullShare} p)) : sProp 𝕄) := by
  unfold k0_t2_body
  simp only [k0_part1_eq_skeleton, k0_part2_eq_skeleton]
  unfold k0_part1_skel k0_part2_skel
  subst hst
  iintro ⟨Hm, Ht, Hb⟩
  simp only [Prog.lift, Prog.bind_op, Prog.bind_ret, Prog.pure_eq_ret, Prog.bind_assoc]
  sl_step
  generalize hv : View.readAt (Elt F) (mcV).view (Rect.unit (s := S16368) (k0_off7 k) S16.size (k0_off7_inb k)).toLoadRect f = v
  rw [read_grp2] at hv
  generalize hb : k0_pay19 (F := F) v28 v71 v74 v75 v85 = b
  generalize hg : grpN f t p b k.val = st
  have hs : grpN f t p b (k.val + 1) = (Scalar.addi st.1 (gcount2 v), if k0_cond1 (gcount2 v) = 1#1 then hot t p b v st.1 (Scf.iv 0#32 1#32 k) st.2 else st.2) := by
    rw [← hg, ← hv]; rfl
  rw [hs]
  change _ ⊢ wp frame (wpE (defs₀ (F := F)) 𝒱₀ (V d (cV L) (jV L)) none) Set.univ _ _
  by_cases h1 : k0_cond1 (gcount2 v) = 1#1
  · iintro ⟨⟨Ht, Hb⟩, Hm⟩
    rw [dif_pos (show k0_cond1 (extractAt ![15] (k0_pay23 (F := F) v) inpos_S16_p15) = 1#1 from h1), if_pos h1]
    have c1 : k0_chk1 (extractAt ![15] (k0_pay23 (F := F) v) inpos_S16_p15) (k0_pay4 b st.1 (k0_pay22 (F := F) v)) := fun _ => in_tr (k0_pay2 b st.1 (k0_pay22 (F := F) v)) (pay2_lt _ _ _) 0#32 (by decide) _ fun _ => rfl
    have c2 : k0_chk2 (extractAt ![15] (k0_pay23 (F := F) v) inpos_S16_p15) (k0_pay5 lanes (Scf.iv 0#32 1#32 k.val)) := fun _ => in_bc k 0#32 (by decide) _ fun _ => rfl
    have c3 : k0_chk3 (extractAt ![15] (k0_pay23 (F := F) v) inpos_S16_p15) (k0_pay7 b st.1 (k0_pay22 (F := F) v)) := fun _ => in_tr (k0_pay2 b st.1 (k0_pay22 (F := F) v)) (pay2_lt _ _ _) 1#32 (by decide) _ fun _ => rfl
    have c4 : k0_chk4 (extractAt ![15] (k0_pay23 (F := F) v) inpos_S16_p15) (k0_pay8 (k0_pay3 lanes (Scf.iv 0#32 1#32 k.val)) 1#32) := fun _ => in_bc k 1#32 (by decide) _ fun _ => rfl
    have c5 : k0_chk5 (extractAt ![15] (k0_pay23 (F := F) v) inpos_S16_p15) (k0_pay9 (k0_pay2 b st.1 (k0_pay22 (F := F) v))) := fun _ => in_tr (k0_pay2 b st.1 (k0_pay22 (F := F) v)) (pay2_lt _ _ _) 2#32 (by decide) _ fun _ => rfl
    have c6 : k0_chk6 (extractAt ![15] (k0_pay23 (F := F) v) inpos_S16_p15) (k0_pay10 (k0_pay3 lanes (Scf.iv 0#32 1#32 k.val))) := fun _ => in_bc k 2#32 (by decide) _ fun _ => rfl
    have c7 : k0_chk7 (extractAt ![15] (k0_pay23 (F := F) v) inpos_S16_p15) (k0_pay12 (k0_pay2 b st.1 (k0_pay22 (F := F) v))) := fun _ => in_tr (k0_pay2 b st.1 (k0_pay22 (F := F) v)) (pay2_lt _ _ _) 3#32 (by decide) _ fun _ => rfl
    have c8 : k0_chk8 (extractAt ![15] (k0_pay23 (F := F) v) inpos_S16_p15) (k0_pay13 (k0_pay3 lanes (Scf.iv 0#32 1#32 k.val))) := fun _ => in_bc k 3#32 (by decide) _ fun _ => rfl
    rw [wp_assume_of _ _ _ _ c1]
    iapply (SparseCore.wp_vectorLoadIdx 𝒱₀ (V d (cV L) (jV L)) none Set.univ (base := trV) (S := Finset.univ) (q := fullShare) (f := t) (Finset.subset_univ _)) $$ Ht
    iintro Ht
    rw [Memref.read_access_whole, gather_eq]
    rw [wp_assume_of _ _ _ _ c2]
    iapply (SparseCore.wp_vectorLoadIdx 𝒱₀ (V d (cV L) (jV L)) none Set.univ (base := bcV) (S := Finset.univ) (q := fullShare) (f := p) (Finset.subset_univ _)) $$ Hb
    iintro Hb
    rw [Memref.read_access_whole, gather_eq]
    rw [wp_assume_of _ _ _ _ c3]
    iapply (SparseCore.wp_vectorLoadIdx 𝒱₀ (V d (cV L) (jV L)) none Set.univ (base := trV) (S := Finset.univ) (q := fullShare) (f := t) (Finset.subset_univ _)) $$ Ht
    iintro Ht
    rw [Memref.read_access_whole, gather_eq]
    rw [wp_assume_of _ _ _ _ c4]
    iapply (SparseCore.wp_vectorLoadIdx 𝒱₀ (V d (cV L) (jV L)) none Set.univ (base := bcV) (S := Finset.univ) (q := fullShare) (f := p) (Finset.subset_univ _)) $$ Hb
    iintro Hb
    rw [Memref.read_access_whole, gather_eq]
    rw [wp_assume_of _ _ _ _ c5]
    iapply (SparseCore.wp_vectorLoadIdx 𝒱₀ (V d (cV L) (jV L)) none Set.univ (base := trV) (S := Finset.univ) (q := fullShare) (f := t) (Finset.subset_univ _)) $$ Ht
    iintro Ht
    rw [Memref.read_access_whole, gather_eq]
    rw [wp_assume_of _ _ _ _ c6]
    iapply (SparseCore.wp_vectorLoadIdx 𝒱₀ (V d (cV L) (jV L)) none Set.univ (base := bcV) (S := Finset.univ) (q := fullShare) (f := p) (Finset.subset_univ _)) $$ Hb
    iintro Hb
    rw [Memref.read_access_whole, gather_eq]
    rw [wp_assume_of _ _ _ _ c7]
    iapply (SparseCore.wp_vectorLoadIdx 𝒱₀ (V d (cV L) (jV L)) none Set.univ (base := trV) (S := Finset.univ) (q := fullShare) (f := t) (Finset.subset_univ _)) $$ Ht
    iintro Ht
    rw [Memref.read_access_whole, gather_eq]
    rw [wp_assume_of _ _ _ _ c8]
    iapply (SparseCore.wp_vectorLoadIdx 𝒱₀ (V d (cV L) (jV L)) none Set.univ (base := bcV) (S := Finset.univ) (q := fullShare) (f := p) (Finset.subset_univ _)) $$ Hb
    iintro Hb
    rw [Memref.read_access_whole, gather_eq]
    sl_step
    isplitr
    · ipureintro; unfold hot gcount2; rfl
    isplitl [Hm]; · iexact Hm
    isplitl [Ht]; · iexact Ht
    iexact Hb
  · iintro ⟨⟨Ht, Hb⟩, Hm⟩
    rw [dif_neg (show ¬ k0_cond1 (extractAt ![15] (k0_pay23 (F := F) v) inpos_S16_p15) = 1#1 from h1), if_neg h1]
    sl_step
    isplitr
    · ipureintro; rfl
    isplitl [Hm]; · iexact Hm
    isplitl [Ht]; · iexact Ht
    iexact Hb

end Cert.Proof

end
-- ==== Proof.Tile.lean ====
/-
  One tile's run: its slices of the inputs copied in, its matches counted, its count left in its row of the shared
  scratch, the barrier, the counts of the tiles before it on its row read back, the losses summed, and its two rows of
  the array of partial results written.
-/
module

public import proofs.«01_k».proof.Proof.Group

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareDrop shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (I : Dev nD → Ins F)

local notation "𝕄" => MT nD τ sig (HIx 1) (Elt F) ℕ UU ℕ
local notation "v0V" => (Memref.whole Cert.KernelIdeal.main_v0_scv : Memref Cert.KernelIdeal.sig Kind.scVector Space.hbm Cert.KernelIdeal.S523776 EltTy.i32)
local notation "v1V" => (Memref.whole Cert.KernelIdeal.main_v1_scv : Memref Cert.KernelIdeal.sig Kind.scVector Space.hbm Cert.KernelIdeal.S16384 EltTy.f32)
local notation "v2V" => (Memref.whole Cert.KernelIdeal.main_v2_scv : Memref Cert.KernelIdeal.sig Kind.scVector Space.hbm Cert.KernelIdeal.S2095104 EltTy.f32)
local notation "v3V" => (Memref.whole Cert.KernelIdeal.main_v3_scv : Memref Cert.KernelIdeal.sig Kind.scVector Space.hbm Cert.KernelIdeal.S64x16 EltTy.f32)
local notation "mcV" => (Memref.whole Cert.KernelIdeal.cc0_scratch0 : Memref Cert.KernelIdeal.sig Kind.scVector Space.vmem Cert.KernelIdeal.S16368 EltTy.i32)
local notation "bcV" => (Memref.whole Cert.KernelIdeal.cc0_scratch1 : Memref Cert.KernelIdeal.sig Kind.scVector Space.vmem Cert.KernelIdeal.S65472 EltTy.f32)
local notation "trV" => (Memref.whole Cert.KernelIdeal.cc0_scratch2 : Memref Cert.KernelIdeal.sig Kind.scVector Space.vmem Cert.KernelIdeal.S2048 EltTy.f32)
local notation "siV" => (Memref.whole Cert.KernelIdeal.cc0_scratch3 : Memref Cert.KernelIdeal.sig Kind.scVector Space.vmem Cert.KernelIdeal.S16 EltTy.i32)
local notation "sfV" => (Memref.whole Cert.KernelIdeal.cc0_scratch4 : Memref Cert.KernelIdeal.sig Kind.scVector Space.vmem Cert.KernelIdeal.S16 EltTy.f32)
local notation "shV" => (Memref.whole Cert.KernelIdeal.cc0_scratch5 : Memref Cert.KernelIdeal.sig Kind.scVector Space.shared Cert.KernelIdeal.S16x16 EltTy.i32)

variable (d : Dev nD) (L : grid0.Coords)

/-! ## The tile's own semaphores and buffers -/

/-- The kernel's own semaphores: the long copy's, and one per region. -/
abbrev dm : Fin 9 → SemLoc sig := ![.dma cc0_scratch6.sem, .dma cc0_scoped0.sem, .dma cc0_scoped1.sem, .dma cc0_scoped2.sem, .dma cc0_scoped3.sem,
  .dma cc0_scoped4.sem, .dma cc0_scoped5.sem, .dma cc0_scoped6.sem, .dma cc0_scoped7.sem]
abbrev dcell (d : Dev nD) (c : Fin τ.nSC) (i : Fin τ.nSub) (k : Fin 9) : GSem nD τ sig := (V d c i, dm k)

theorem dm_inj : Function.Injective dm := by decide
theorem dm_scoped : ∀ k, (dm k).isScoped .scVector = true := by decide

omit [FloatOps F] in
theorem bigSep_succ {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

omit [FloatOps F] in
theorem bigSep_image_rest {A B : Type} [DecidableEq A] [DecidableEq B] {s : Finset A} {t : Finset B} {f : B → A} (hf : Function.Injective f)
    (ht : ∀ j ∈ t, f j ∈ s) (Φ : A → sProp 𝕄) : bigSep s Φ = iprop(bigSep t (fun j => Φ (f j)) ∗ bigSep (s \ t.image f) Φ) := by
  rw [SparseCore.bigSep_sdiff_split' (t := t.image f) fun x hx => by obtain ⟨j, hj, rfl⟩ := Finset.mem_image.mp hx; exact ht j hj,
    SparseCore.bigSep_image_of_injOn (fun a _ b _ h => hf h)]

/-- The semaphores of a tile that are none of the kernel's. -/
abbrev restSems (d : Dev nD) (L : grid0.Coords) : sProp 𝕄 :=
  bigSep (ownCells (V d (cV L) (jV L)) \ Finset.univ.image (dcell d (cV L) (jV L))) fun g => semVal g 0

omit [FloatOps F] in
theorem ownSems0_V :
    (ownSems0 (V d (cV L) (jV L)) : sProp 𝕄)
      = iprop((semVal (dcell d (cV L) (jV L) 0) 0 ∗ semVal (dcell d (cV L) (jV L) 1) 0 ∗ semVal (dcell d (cV L) (jV L) 2) 0
          ∗ semVal (dcell d (cV L) (jV L) 3) 0 ∗ semVal (dcell d (cV L) (jV L) 4) 0 ∗ semVal (dcell d (cV L) (jV L) 5) 0
          ∗ semVal (dcell d (cV L) (jV L) 6) 0 ∗ semVal (dcell d (cV L) (jV L) 7) 0 ∗ semVal (dcell d (cV L) (jV L) 8) 0 ∗ emp) ∗ restSems d L) := by
  unfold SparseCore.Cfg.ownSems0
  rw [bigSep_image_rest (f := dcell d (cV L) (jV L)) (t := Finset.univ) (fun a b h => dm_inj (congrArg Prod.snd h))
    (fun k _ => mem_ownCells.mpr ⟨rfl, dm_scoped k⟩)]
  iterate 9 rw [bigSep_succ]
  rw [show (Finset.univ : Finset (Fin 0)) = ∅ from rfl, bigSep_empty]
  rfl

/-- The kernel's scratch of a tile's own memory. -/
abbrev bf : Fin 5 → Ref sig .scVector := ![cc0_scratch0, cc0_scratch1, cc0_scratch2, cc0_scratch3, cc0_scratch4]
abbrev bref (c : Fin τ.nSC) (i : Fin τ.nSub) (k : Fin 5) : DevRef τ sig := (Proc.scVector c i).devRef (bf k)

theorem bref_inj (c : Fin τ.nSC) (i : Fin τ.nSub) : Function.Injective (bref c i) := by
  intro a b h
  fin_cases a <;> fin_cases b <;> first | rfl | exact absurd h (by simp [bref, bf])

/-- The buffers of a tile that are none of the kernel's. -/
abbrev restBufs (d : Dev nD) (L : grid0.Coords) : sProp 𝕄 :=
  bigSep (ownRefs (τ := τ) (.scVector (cV L) (jV L)) \ Finset.univ.image (bref (cV L) (jV L))) fun b => iprop(∃ f, ((d, b) : Loc nD τ sig) ↦{fullShare} f)

omit [FloatOps F] in
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ emp) ∗ restBufs d L) := by
  unfold SparseCore.Cfg.ownBufs
  rw [bigSep_image_rest (f := bref (cV L) (jV L)) (t := Finset.univ) (bref_inj _ _)
    (fun k _ => SparseCore.Cfg.mem_ownRefs_of_owner (p := Proc.scVector (cV L) (jV L)) (b := bref (cV L) (jV L) k) (by fin_cases k <;> rfl))]
  iterate 5 rw [bigSep_succ]
  rw [show (Finset.univ : Finset (Fin 0)) = ∅ from rfl, bigSep_empty]
  rfl

/-! ## The barrier's payloads -/

/-- The tile's row, filled, is what it keeps of it and a share for every tile's round. -/
theorem pays_intro :
    (shRowAt I d (cV L) (jV L).val fullShare : sProp 𝕄)
      ⊢ iprop(shRowAt I d (cV L) (jV L).val (shareDrop fullShare 16)
        ∗ bigSep Finset.univ fun j : Fin (grid0.bound 1) => (bRd I).payload (bcell d (cV L) (j.castLE hsub0)) 0 (jV L).val) :=
  (Transfers.pointsTo_toks fullShare 16).1

/-- The shares of every row, joined: a share of the whole scratch. -/
theorem pays_elim :
    (bigSep ((bRd I).duties (bcell d (cV L) (jV L)) 0 \ ∅) fun n => (bRd I).payload (bcell d (cV L) (jV L)) 0 n)
      ⊢ (shLoc d (cV L) ↦[Finset.univ]{shareTokN fullShare (jV L).val} shf I d (cV L) : sProp 𝕄) := by
  rw [Finset.sdiff_empty, bRd_duties₀]
  show (bigSep ((Finset.univ : Finset (Fin τ.nSub)).image Fin.val) fun n => shRowAt I d (cV L) n (shareTokN fullShare (jV L).val)) ⊢ _
  have hdisj : ∀ i ∈ (Finset.univ : Finset (Fin τ.nSub)).image Fin.val, ∀ j ∈ (Finset.univ : Finset (Fin τ.nSub)).image Fin.val, i ≠ j → Disjoint (srow i) (srow j) :=
    fun i _ j _ h => Finset.disjoint_filter.mpr fun x _ hi hj => h (hi.symm.trans hj)
  have hcov : ((Finset.univ : Finset (Fin τ.nSub)).image Fin.val).biUnion srow = Finset.univ := by
    ext x
    simp only [Finset.mem_biUnion, Finset.mem_image, Finset.mem_univ, true_and, iff_true]
    exact ⟨(x 0).val, ⟨⟨(x 0).val, (x 0).isLt⟩, rfl⟩, Finset.mem_filter.mpr ⟨Finset.mem_univ _, rfl⟩⟩
  rw [← pointsTo_biUnion _ (ℓ := shLoc d (cV L)) srow hdisj, hcov]

/-! ## The values the run leaves -/

omit [FloatOps F] in
theorem read16i (f : Vec F S16 .i32) : (siV).view.readAt (Elt F) (Rect.unit (s := S16) ![0] S16.size inb_S16_S16_0).toLoadRect f = f :=
  Memref.readAt_unit_zero (Elt F) cc0_scratch3 (show (![0] : Fin 1 → ℕ) = fun _ => 0 by decide) inb_S16_S16_0 f

omit [FloatOps F] in
theorem write16i (f w : Vec F S16 .i32) : (siV).view.writes (Elt F) f [⟨Rect.unit (s := S16) ![0] S16.size inb_S16_S16_0, w⟩] = w :=
  Memref.write_access_unit_zero_univ (Elt F) cc0_scratch3 (show (![0] : Fin 1 → ℕ) = fun _ => 0 by decide) inb_S16_S16_0 f w

omit [FloatOps F] in
theorem write16f (f w : Vec F S16 .f32) : (sfV).view.writes (Elt F) f [⟨Rect.unit (s := S16) ![0] S16.size inb_S16_S16_0, w⟩] = w :=
  Memref.write_access_unit_zero_univ (Elt F) cc0_scratch4 (show (![0] : Fin 1 → ℕ) = fun _ => 0 by decide) inb_S16_S16_0 f w

omit [FloatOps F] in
/-- A row written whole reads what was written. -/
theorem read_writes_whole {κ : Kind} {sp : Space} {s : Shape} {e : EltTy} (v : View sig κ sp s e) (f : v.ty.Contents (Elt F)) (w : s.Idx → Elt F e) :
    v.read (Elt F) (v.writes (Elt F) f [⟨Rect.whole s, w⟩]) = w := by
  funext x
  have h := congrFun (View.read_write_univ (v := v.slice (Rect.whole s)) f w) x
  rw [View.read_apply] at h ⊢
  refine Eq.trans ?_ h
  rw [show (v.slice (Rect.whole s)).emb x = v.emb x from congrArg v.emb (Rect.emb_whole_apply s x)]
  rfl

/-- The number of a tile among the four of its row, as the kernel computes it. -/
theorem chunk_eq : ∀ j : Fin 16, Scalar.select
      (Scalar.andi
        (Scalar.xori
          (Scalar.cmpi CmpIPredicate.slt (Scalar.remsi (BitVec.ofNat 32 j.val) (Scalar.select (Scalar.cmpi CmpIPredicate.eq 4#32 0#32) 1#32 4#32)) 0#32)
          (Scalar.cmpi CmpIPredicate.slt (Scalar.select (Scalar.cmpi CmpIPredicate.eq 4#32 0#32) 1#32 4#32) 0#32))
        (Scalar.cmpi CmpIPredicate.ne (Scalar.remsi (BitVec.ofNat 32 j.val) (Scalar.select (Scalar.cmpi CmpIPredicate.eq 4#32 0#32) 1#32 4#32)) 0#32))
      (Scalar.addi (Scalar.remsi (BitVec.ofNat 32 j.val) (Scalar.select (Scalar.cmpi CmpIPredicate.eq 4#32 0#32) 1#32 4#32))
        (Scalar.select (Scalar.cmpi CmpIPredicate.eq 4#32 0#32) 1#32 4#32))
      (Scalar.remsi (BitVec.ofNat 32 j.val) (Scalar.select (Scalar.cmpi CmpIPredicate.eq 4#32 0#32) 1#32 4#32))
    = BitVec.ofNat 32 (j.val % 4) := by decide +kernel

/-! ## The run -/

/-- The counting loop: after `k` groups the running count is the count over them. -/
def inv1 (k : ℕ) (n : BitVec 32) : sProp 𝕄 :=
  iprop(⌜n = cntN (mv (I d) (wL L)) k⌝ ∗ (mcV).view.loc (V d (cV L) (jV L)) ↦{fullShare} mv (I d) (wL L))

/-- The summing loop: after `k` groups the state is that over them. -/
def inv2 (k : ℕ) (st : BitVec 32 × FVec F S16 .f32) : sProp 𝕄 :=
  iprop(⌜st = grpN (mv (I d) (wL L)) (tv (I d) (wL L)) (bv (I d) (wL L)) (base (I d) (wL L)) k⌝
    ∗ ((mcV).view.loc (V d (cV L) (jV L)) ↦{fullShare} mv (I d) (wL L)) ∗ ((trV).view.loc (V d (cV L) (jV L)) ↦{fullShare} tv (I d) (wL L))
    ∗ ((bcV).view.loc (V d (cV L) (jV L)) ↦{fullShare} bv (I d) (wL L)))

set_option maxHeartbeats 4000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit I d (cV L) (jV L)
        ∗ ((ins I d (wL L) ∗ outs0 d (wL L)) ∗ sh0 d (cV L) (jV L))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0_body L v0V (Memref.isWhole_whole _) v1V (Memref.isWhole_whole _) v2V (Memref.isWhole_whole _) v3V (Memref.isWhole_whole _)
            mcV (Memref.isWhole_whole _) bcV (Memref.isWhole_whole _) trV (Memref.isWhole_whole _) siV (Memref.isWhole_whole _) sfV (Memref.isWhole_whole _)
            shV (Memref.isWhole_whole _) cc0_scratch6 cc0_scoped0 cc0_scoped1 cc0_scoped2 cc0_scoped3 cc0_scoped4 cc0_scoped5 cc0_scoped6 cc0_scoped7)
          fun _ => iprop((back I d (cV L) (jV L) ∗ shBack I d (cV L) (jV L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0_body_eq_skeleton]; unfold cc0_body_skel
  simp only [k0_part3_eq_skeleton, k0_part4_eq_skeleton, k0_part5_eq_skeleton, k0_part6_eq_skeleton]
  unfold k0_part3_skel k0_part4_skel k0_part5_skel k0_part6_skel
  simp only [Prog.bind_assoc]
  rw [(K (F := F)).scopedBufs_V hF d (cV L) (jV L), SparseCore.Cfg.scopedSems0_V (Val := Elt F) d (cV L) (jV L), ownSems0_V, ownBufs_V]
  unfold bkit ins outs0 sh0
  iintro ⟨#Hlv, ⟨⟨%κ, #Hinv⟩, Htoks, #Hrch, Hat, Hcred⟩, ⟨⟨⟨Hm, Ht, Hb⟩, ⟨%fo, Ho⟩, %fo2, Ho2⟩, %fsh, Hsh⟩,
    ⟨⟨⟨%fmc, Hmc⟩, ⟨%fbc, Hbc⟩, ⟨%ftr, Htr⟩, ⟨%fsi, Hsi⟩, ⟨%fsf, Hsf⟩, -⟩, Hbufs⟩, ⟨⟨Hs0, Hs1, Hs2, Hs3, Hs4, Hs5, Hs6, Hs7, Hs8, -⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hm := (show (mLoc d ↦{shareTokN fullShare (wL L)} (I d).M : sProp 𝕄) ⊢ ((v0V).view.loc (V d (cV L) (jV L)) ↦[Finset.univ]{shareTokN fullShare (wL L)} (I d).M : sProp 𝕄) from BI.Entails.refl _) $$ Hm
  ihave Ht := (show (tLoc d ↦{shareTokN fullShare (wL L)} (I d).T : sProp 𝕄) ⊢ ((v1V).view.loc (V d (cV L) (jV L)) ↦[Finset.univ]{shareTokN fullShare (wL L)} (I d).T : sProp 𝕄) from BI.Entails.refl _) $$ Ht
  ihave Hb := (show (bLoc d ↦{shareTokN fullShare (wL L)} (I d).B : sProp 𝕄) ⊢ ((v2V).view.loc (V d (cV L) (jV L)) ↦[Finset.univ]{shareTokN fullShare (wL L)} (I d).B : sProp 𝕄) from BI.Entails.refl _) $$ Hb
  ihave Ho := (show (oLoc d ↦[orow (wL L)]{fullShare} fo : sProp 𝕄) ⊢ ((oSl L).view.loc (V d (cV L) (jV L)) ↦[(oSl L).view.set]{fullShare} fo : sProp 𝕄) from Entails.of_eq (by rw [set_oSl])) $$ Ho
  ihave Ho2 := (show (oLoc d ↦[orow (32 + wL L)]{fullShare} fo2 : sProp 𝕄) ⊢ ((oSl2 L).view.loc (V d (cV L) (jV L)) ↦[(oSl2 L).view.set]{fullShare} fo2 : sProp 𝕄) from Entails.of_eq (by rw [set_oSl2])) $$ Ho2
  ihave Hsh := (show (shLoc d (cV L) ↦[srow (jV L).val]{fullShare} fsh : sProp 𝕄) ⊢ ((shSl L).view.loc (V d (cV L) (jV L)) ↦[(shSl L).view.set]{fullShare} fsh : sProp 𝕄) from
    Entails.of_eq (by rw [set_shSl]; rfl)) $$ Hsh
  ihave Hmc := (show ((V d (cV L) (jV L)).loc cc0_scratch0 ↦{fullShare} fmc : sProp 𝕄) ⊢ ((mcV).view.loc (V d (cV L) (jV L)) ↦{fullShare} fmc : sProp 𝕄) from BI.Entails.refl _) $$ Hmc
  ihave Hbc := (show ((V d (cV L) (jV L)).loc cc0_scratch1 ↦{fullShare} fbc : sProp 𝕄) ⊢ ((bcV).view.loc (V d (cV L) (jV L)) ↦{fullShare} fbc : sProp 𝕄) from BI.Entails.refl _) $$ Hbc
  ihave Htr := (show ((V d (cV L) (jV L)).loc cc0_scratch2 ↦{fullShare} ftr : sProp 𝕄) ⊢ ((trV).view.loc (V d (cV L) (jV L)) ↦{fullShare} ftr : sProp 𝕄) from BI.Entails.refl _) $$ Htr
  ihave Hsi := (show ((V d (cV L) (jV L)).loc cc0_scratch3 ↦{fullShare} fsi : sProp 𝕄) ⊢ ((siV).view.loc (V d (cV L) (jV L)) ↦{fullShare} fsi : sProp 𝕄) from BI.Entails.refl _) $$ Hsi
  ihave Hsf := (show ((V d (cV L) (jV L)).loc cc0_scratch4 ↦{fullShare} fsf : sProp 𝕄) ⊢ ((sfV).view.loc (V d (cV L) (jV L)) ↦{fullShare} fsf : sProp 𝕄) from BI.Entails.refl _) $$ Hsf
  sl_exec
  ihave Hmc := (show (_ : sProp 𝕄) ⊢ ((mcV).view.loc (V d (cV L) (jV L)) ↦{fullShare} mv (I d) (wL L) : sProp 𝕄) from
    Entails.of_eq (congrArg (fun f => (mcV).view.loc (V d (cV L) (jV L)) ↦{fullShare} f) ((View.write_whole_univ _ _ _).trans (read_mSl (I d) L)))) $$ Hmc
  ihave Htr := (show (_ : sProp 𝕄) ⊢ ((trV).view.loc (V d (cV L) (jV L)) ↦{fullShare} tv (I d) (wL L) : sProp 𝕄) from
    Entails.of_eq (congrArg (fun f => (trV).view.loc (V d (cV L) (jV L)) ↦{fullShare} f) ((View.write_whole_univ _ _ _).trans (read_tSl (I d) L)))) $$ Htr
  sl_for (inv1 I d L) $$ [Hmc]
  case region =>
    intro k n
    unfold inv1
    iintro ⟨%hn, Hmc⟩
    sl_exec
    sl_step
    isplitr
    · ipureintro
      rw [hn]; show Scalar.addi _ (gcount (F := F) _) = Scalar.addi _ (gcount (F := F) _); rw [read_grp]
    · iexact Hmc
  · unfold inv1
    isplitr
    · ipureintro; rfl
    · iexact Hmc
  iintro %cn HI
  unfold inv1
  icases HI with ⟨%hcn, Hmc⟩
  sl_exec
  have hcn' : cn = cnt (I d) (wL L) := hcn
  ihave Hsh := (show (_ : sProp 𝕄) ⊢ (shRowAt I d (cV L) (jV L).val fullShare : sProp 𝕄) from
    Entails.of_eq (by
      show _ = (shLoc d (cV L) ↦[srow (L 1).val]{fullShare} shf I d (cV L) : sProp 𝕄)
      rw [← set_shSl L]
      refine pointsTo_congr (eqOn_of_read (shSl L).view _ (shv (I d) (L 0).val) ?_)
      refine Eq.trans ?_ (read_shSl (I d) L).symm
      refine (read_writes_whole (shSl L).view fsh (tile_body.sl.dma2 d L fsi cn)).trans ?_
      rw [← hcn']
      exact write16i fsi (k0_pay16 cn))) $$ Hsh
  ihave Hsh := (pays_intro I d L) $$ Hsh
  icases Hsh with ⟨Hrow, Hpays⟩
  iapply (SparseCore.wp_subcoreBarrier 𝒱₀ none EB (bRd I) d (sc := cV L) (i := jV L) sc_bar0 (grid0.bound 1) hsub0 (L 1) rfl κ (fun _ => 0) (jV L).val
      (fun j => bRd_mem₀ I d _ _ _) (fun _ => rfl) (bRd_expect I d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd I) (g := bcell d (cV L) (jV L)) (Set.mem_univ (κ _)) (fun h => h) (bRd_duties_succ I _)) $$ [Hat] with Hbar
  · isplitr
    · iapply (SparseCore.ent (bigSep_elim (Φ := fun j : Fin (grid0.bound 1) =>
        (cellInv EB (bRd I) (κ (bcell d (cV L) (j.castLE hsub0))) (bcell d (cV L) (j.castLE hsub0)) : sProp 𝕄)) (Finset.mem_univ (L 1)))); iexact Hinv
    · iexact Hat
  ihave Hall := (pays_elim I d L) $$ Hgot
  ihave Hall := (show (shLoc d (cV L) ↦[Finset.univ]{shareTokN fullShare (jV L).val} shf I d (cV L) : sProp 𝕄)
    ⊢ ((shV).view.loc (V d (cV L) (jV L)) ↦[Finset.univ]{shareTokN fullShare (jV L).val} shf I d (cV L) : sProp 𝕄) from BI.Entails.refl _) $$ Hall
  sl_exec
  dsimp only
  have hch := chunk_eq (L 1)
  rw [hch]
  have ha : tile_body.sl.a I d L fsi cn = k0_pay16 (cnt (I d) (wL L / 4 * 4)) :=
    (read16i _).trans ((View.write_whole_univ _ _ _).trans (read_shSl2 (I d) L 0))
  have ha1 : tile_body.sl.a_1 I d L fsi cn = k0_pay16 (cnt (I d) (wL L / 4 * 4 + 1)) :=
    (read16i _).trans ((View.write_whole_univ _ _ _).trans (read_shSl2 (I d) L 1))
  have ha2 : tile_body.sl.a_2 I d L fsi cn = k0_pay16 (cnt (I d) (wL L / 4 * 4 + 2)) :=
    (read16i _).trans ((View.write_whole_univ _ _ _).trans (read_shSl2 (I d) L 2))
  rw [ha, ha1, ha2, show (L 1).val % 4 = wL L % 4 by unfold wL wid; omega]
  ihave Hbc := (show (_ : sProp 𝕄) ⊢ ((bcV).view.loc (V d (cV L) (jV L)) ↦{fullShare} bv (I d) (wL L) : sProp 𝕄) from
    Entails.of_eq (congrArg (fun f => (bcV).view.loc (V d (cV L) (jV L)) ↦{fullShare} f) ((View.write_whole_univ _ _ _).trans (read_bSl (I d) L)))) $$ Hbc
  ihave Hsf := (show (_ : sProp 𝕄) ⊢ ((sfV).view.loc (V d (cV L) (jV L)) ↦{fullShare} fsf : sProp 𝕄) from BI.Entails.refl _) $$ Hsf
  ihave Ho := (show (_ : sProp 𝕄) ⊢ ((oSl L).view.loc (V d (cV L) (jV L)) ↦[(oSl L).view.set]{fullShare} fo : sProp 𝕄) from BI.Entails.refl _) $$ Ho
  ihave Ho2 := (show (_ : sProp 𝕄) ⊢ ((oSl2 L).view.loc (V d (cV L) (jV L)) ↦[(oSl2 L).view.set]{fullShare} fo2 : sProp 𝕄) from BI.Entails.refl _) $$ Ho2
  sl_for (inv2 I d L) $$ [Hmc Htr Hbc]
  case region =>
    intro k st
    unfold inv2
    iintro ⟨%hn, HI⟩
    iapply (wp_group d L (mv (I d) (wL L)) (tv (I d) (wL L)) (bv (I d) (wL L)) (BitVec.ofNat 32 (wL L % 4)) _
      (k0_pay17 (F := F) (BitVec.ofNat 32 (wL L % 4)) (k0_pay16 (cnt (I d) (wL L / 4 * 4)))) (k0_pay16 (cnt (I d) (wL L / 4 * 4 + 1))) k0_pay18
      (k0_pay16 (cnt (I d) (wL L / 4 * 4 + 2))) k st hn)
    iexact HI
  · unfold inv2
    isplitr
    · ipureintro; rfl
    isplitl [Hmc]; · iexact Hmc
    isplitl [Htr]; · iexact Htr
    iexact Hbc
  iintro %st HI
  unfold inv2
  icases HI with ⟨%hst, Hmc, Htr, Hbc⟩
  sl_exec
  have hst' : st.2 = acc (I d) (wL L) := congrArg Prod.snd hst
  ihave Ho := (show (_ : sProp 𝕄) ⊢ (oLoc d ↦[orow (wL L)]{fullShare} of I d : sProp 𝕄) from
    Entails.of_eq (by
      rw [← set_oSl L]
      refine pointsTo_congr (eqOn_of_read (oSl L).view _ (outv (I d)) ?_)
      refine Eq.trans ?_ (read_oSl (I d) L).symm
      refine (read_writes_whole (oSl L).view fo (tile_body.sl.dma2_2 d L fsf st)).trans ?_
      rw [← hst']
      exact write16f fsf st.2)) $$ Ho
  ihave Ho2 := (show (_ : sProp 𝕄) ⊢ (oLoc d ↦[orow (32 + wL L)]{fullShare} of I d : sProp 𝕄) from
    Entails.of_eq (by
      rw [← set_oSl2 L]
      refine pointsTo_congr (eqOn_of_read (oSl2 L).view _ (outv (I d)) ?_)
      refine Eq.trans ?_ (read_oSl2 (I d) L).symm
      refine (read_writes_whole (oSl2 L).view fo2 (tile_body.sl.dma4 d L fsf cn st)).trans ?_
      rw [← hcn']
      exact write16f _ (k0_pay1 (F := F) cn))) $$ Ho2
  sl_step
  isplitl [Hm Ht Hb Ho Ho2 Hbar Hrow Hall]
  · isplitr [Hrow Hall]
    · unfold back
      isplitr [Hbar]; swap; · iexact Hbar
      isplitl [Hm Ht Hb]
      · unfold ins
        isplitl [Hm]; · iexact Hm
        isplitl [Ht]; · iexact Ht
        iexact Hb
      unfold outs1
      isplitl [Ho]; · iexact Ho
      iexact Ho2
    · unfold shBack
      isplitl [Hrow]; · iexact Hrow
      iexact Hall
  isplitl [Hmc Hbc Htr Hsi Hsf Hbufs]
  · isplitr [Hbufs]; swap; · iexact Hbufs
    isplitl [Hmc]; · iexists _; iexact Hmc
    isplitl [Hbc]; · iexists _; iexact Hbc
    isplitl [Htr]; · iexists _; iexact Htr
    isplitl [Hsi]; · iexists _; iexact Hsi
    isplitl [Hsf]; · iexists _; iexact Hsf
    iempintro
  isplitl [Hs0 Hs1 Hs2 Hs3 Hs4 Hs5 Hs6 Hs7 Hs8 Hsems]
  · isplitr [Hsems]; swap; · iexact Hsems
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iempintro
  iexists _; isplitr
  swap; · iexact HO
  ipureintro; intro p hp
  iterate 6 (rcases Finset.mem_insert.mp hp with hp | hp; · exact .inr (.inl (hp ▸ rfl)))
  rcases Finset.mem_insert.mp hp with hp | hp; · exact .inr (.inr (hp ▸ rfl))
  iterate 3 (rcases Finset.mem_insert.mp hp with hp | hp; · exact .inr (.inl (hp ▸ rfl)))
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          v0V (Memref.isWhole_whole _) v1V (Memref.isWhole_whole _) v2V (Memref.isWhole_whole _) v3V (Memref.isWhole_whole _)
          mcV (Memref.isWhole_whole _) bcV (Memref.isWhole_whole _) trV (Memref.isWhole_whole _) siV (Memref.isWhole_whole _) sfV (Memref.isWhole_whole _)
          shV (Memref.isWhole_whole _) cc0_scratch6 cc0_scoped0 cc0_scoped1 cc0_scoped2 cc0_scoped3 cc0_scoped4 cc0_scoped5 cc0_scoped6 cc0_scoped7) ⟨⟩ c s := rfl

set_option maxRecDepth 16384 in
theorem tileObl (hF : (K (F := F)).Facts) : (K (F := F)).TileObl (D (F := F)) 𝒱 (P I) v₀ 0 := by
  intro d c i O W hO hOlev _
  have hci : ((K (F := F)).core 0 c).val < grid0.bound 0 ∧ ((K (F := F)).sub 0 i).val < grid0.bound 1 := ⟨c.isLt, i.isLt⟩
  rw [show (P I).ox 0 (V d ((K (F := F)).core 0 c) ((K (F := F)).sub 0 i)) = oxV d ((K (F := F)).core 0 c) from rfl,
    show (P I).x 0 (V d ((K (F := F)).core 0 c) ((K (F := F)).sub 0 i)) = bkit I d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body I d (coordsV ⟨_, hci.1⟩ ⟨_, hci.2⟩) hF O W hO hOlev

end Cert.Proof

end
-- ==== Proof.Launch.lean ====
/-
  The launch: each SparseCore's shared scratch dealt to its tiles a row each and put together again, and the ghost
  state the launch hands out — every tile its barrier kit, the TensorCore the finishing call's cells.
-/
module

public import proofs.«01_k».proof.Proof.Tile
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareDrop shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (I : Dev nD → Ins F)

local notation "𝕄" => MT nD τ sig (HIx 1) (Elt F) ℕ UU ℕ

/-! ## The shared scratch by rows -/

omit [FloatOps F] in
theorem srow_disjoint : ∀ i ∈ (Finset.univ : Finset (Fin 16)), ∀ j ∈ (Finset.univ : Finset (Fin 16)), i ≠ j → Disjoint (srow i.val) (srow j.val) := by
  intro i _ j _ hij
  refine Finset.disjoint_left.mpr fun x hx hx' => hij (Fin.ext ?_)
  exact (Finset.mem_filter.mp hx).2.symm.trans (Finset.mem_filter.mp hx').2

omit [FloatOps F] in
theorem srow_cover : (Finset.univ : Finset (Fin 16)).biUnion (fun i => srow i.val) = Finset.univ := by
  ext x
  refine ⟨fun _ => Finset.mem_univ _, fun _ => Finset.mem_biUnion.mpr ⟨⟨(x 0).val, (x 0).isLt⟩, Finset.mem_univ _, ?_⟩⟩
  exact Finset.mem_filter.mpr ⟨Finset.mem_univ _, rfl⟩

/-- At any share, the whole scratch is its sixteen rows. -/
theorem sh_rows (d : Dev nD) (c : Fin τ.nSC) (q : PosShare TreeShare) (f : Buf (Elt F) (shLoc d c)) :
    (shLoc d c ↦{q} f : sProp 𝕄) = bigSep Finset.univ fun i : Fin 16 => shLoc d c ↦[srow i.val]{q} f := by
  rw [← pointsTo_biUnion Finset.univ (ℓ := shLoc d c) (fun i : Fin 16 => srow i.val) srow_disjoint, srow_cover]; try rfl

/-- The rows the tiles keep and the shares they were handed are the whole scratch again. -/
theorem sh_join (d : Dev nD) (c : Fin τ.nSC) :
    (bigSep Finset.univ fun i : Fin 16 => shBack I d c i) ⊢ (shLoc d c ↦{fullShare} shf I d c : sProp 𝕄) := by
  unfold shBack
  rw [bigSep_sep']
  refine BI.Entails.trans ?_ (Transfers.pointsTo_toks fullShare 16).2
  exact BI.sep_mono (Entails.of_eq (sh_rows d c (shareDrop fullShare 16) (shf I d c)).symm) (BI.Entails.refl _)

omit [FloatOps F] in
/-- The shared scratch is one of the sequencer's own buffers. -/
theorem ownBufs_sh (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

/-- A SparseCore's part of the call, dealt to its sixteen tiles with a row of the scratch each, and gathered. -/
theorem vecSplit : (K (F := F)).VecSplit (P I) 0 := by
  intro d c
  show iprop((bigSep Finset.univ fun i : Fin 16 => iprop(ins I d (wid (coreOf c).val i.val) ∗ outs0 d (wid (coreOf c).val i.val)))
      ∗ ownBufs (S d (coreOf c))) ⊢ |={Set.univ}=> iprop(
      (bigSep Finset.univ fun i : Fin 16 => iprop((ins I d (wid (coreOf c).val i.val) ∗ outs0 d (wid (coreOf c).val i.val)) ∗ sh0 d (coreOf c) i))
      ∗ ((bigSep Finset.univ fun i : Fin 16 => iprop(back I d (coreOf c) i ∗ shBack I d (coreOf c) i))
          -∗ iprop((bigSep Finset.univ fun i : Fin 16 => back I d (coreOf c) i) ∗ ownBufs (S d (coreOf c)))))
  rw [bigSep_sep' _ (fun i : Fin 16 => iprop(ins I d (wid (coreOf c).val i.val) ∗ outs0 d (wid (coreOf c).val i.val))) (fun i : Fin 16 => sh0 d (coreOf c) i),
    bigSep_sep' _ (fun i : Fin 16 => back I d (coreOf c) i) (fun i : Fin 16 => shBack I d (coreOf c) i), ownBufs_sh]
  iintro ⟨Hio, ⟨%f, Hf⟩, Hrest⟩
  imodintro
  isplitl [Hio Hf]
  · isplitl [Hio]; · iexact Hio
    ihave Hr := (Entails.of_eq (sh_rows (F := F) d (coreOf c) fullShare f)) $$ Hf
    iapply (SparseCore.ent (bigSep_mono (s := (Finset.univ : Finset (Fin 16))) (Φ := fun i : Fin 16 => (shLoc d (coreOf (F := F) c) ↦[srow i.val]{fullShare} f : sProp 𝕄))
      (Ψ := fun i : Fin 16 => sh0 (F := F) d (coreOf c) i)
      fun i _ => BI.BIClass.exists_intro (Φ := fun f : Buf (Elt F) (shLoc d (coreOf (F := F) c)) => (shLoc d (coreOf (F := F) c) ↦[srow i.val]{fullShare} f : sProp 𝕄)) f))
    iexact Hr
  iintro ⟨Hb, Hs⟩
  isplitl [Hb]; · iexact Hb
  isplitl [Hs]
  · iexists shf I d (coreOf c)
    iapply (sh_join I d (coreOf c)); iexact Hs
  iexact Hrest

/-! ## The launch's ghost state -/

/-- A tile of the mesh: its device, its SparseCore, its number there. -/
abbrev DCI : Type := Dev nD × Fin τ.nSC × Fin τ.nSub
abbrev bcellOf (x : DCI) : GSem nD τ sig := bcell x.1 x.2.1 x.2.2

/-- Every tile's barrier cell. -/
def bCells : Finset (GSem nD τ sig) := (Finset.univ : Finset DCI).image bcellOf
/-- Tile `i`'s token in tile `j`'s cell, for every pair of tiles of one SparseCore. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)

/-- The finishing call's launch element. -/
def pInit : UP := initOf (Pipeline.cells (nD := nD) (τ := τ) cfgs cellOf_inj) (Pipeline.launchToks (nD := nD) (τ := τ) cfgs cellOf_inj)
def u₀ : UU := (initOf (K (F := F)).hsCells (K (F := F)).hsToks, (initOf bCells bToks, (pInit, 1)))

omit [FloatOps F] in
theorem bcellOf_injective : Function.Injective (bcellOf : DCI → GSem nD τ sig) := by
  rintro ⟨d, c, i⟩ ⟨d', c', i'⟩ h
  have h1 := Prod.mk.inj (Prod.mk.inj h).1
  have h2 := Proc.scVector.inj h1.2
  exact Prod.ext h1.1 (Prod.ext h2.1 h2.2)

omit [FloatOps F] in
/-- The launch's element splits into the handshakes', the barrier cells' and the finishing call's. -/
theorem ownU_split (a : UH) (b : UB) (p : UP) :
    (ownU ((a, (b, (p, 1))) : UU) : sProp 𝕄) ⊢ iprop(BI.own (EH a) ∗ BI.own (EB b) ∗ BI.own (EP p)) := by
  have hinner : (BI.own ((uEmb (nD := nD) (sig := sig) (Ix := HIx 1) (Val := Elt F) (Name := ℕ) (U := UU) (Lvl := ℕ)).toEmb (1, (b, (p, 1)))) : sProp 𝕄)
      ⊢ iprop(BI.own (EB b) ∗ BI.own (EP p)) :=
    BI.own_op_elim ((uEmb (nD := nD) (sig := sig) (Ix := HIx 1) (Val := Elt F) (Name := ℕ) (U := UU) (Lvl := ℕ)).toEmb.op_of_mem
      (Prod.mk_mem_op (URA.mem_op_one 1) (Prod.mk_mem_op (URA.mem_op_one b) (URA.mem_one_op (p, (1 : Counters))))))
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (p, (1 : Counters))))))).trans ?_
  exact BI.sep_mono (BI.Entails.refl _) hinner

/-- Every barrier semaphore at zero, out of the free semaphores. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcellOf_injective e)]
  refine sep_elim_right.trans (bigSep_mono fun x _ => ?_)
  have hmem : (SemLoc.reg sc_bar0 : SemLoc sig) ∈ (((Finset.univ.filter fun sm : SemLoc sig => ¬ sm.isScoped .scVector).erase (.reg (K (F := F)).go)).filter
      fun sm => ((V x.1 x.2.1 x.2.2, sm) : GSem nD τ sig) ∈ (Finset.univ : Finset DCI).image bcellOf) :=
    Finset.mem_filter.mpr ⟨Finset.mem_erase.mpr ⟨fun h => sc_bar0_ne_go (SemLoc.reg.inj h), Finset.mem_filter.mpr ⟨Finset.mem_univ _, by decide⟩⟩,
      Finset.mem_image_of_mem bcellOf (Finset.mem_univ x)⟩
  exact bigSep_elim (Φ := fun sm : SemLoc sig => (semVal (V x.1 x.2.1 x.2.2, sm) 0 : sProp 𝕄)) hmem

/-- The barrier cells' invariants, all at once. -/
theorem invs_b : iprop((bigSep bCells fun g => (semVal g 0 : sProp 𝕄)) ∗ bigSep bCells fun g => roundState EB (bRd I) g 0)
    ⊢ |={Set.univ}=> iprop(∃ κ : GSem nD τ sig → ℕ, bigSep bCells fun g => cellInv EB (bRd I) (κ g) g) := by
  refine (Rounds.bodies_intro EB (bRd I) bCells).trans ((inv_alloc_family bCells (Rounds.body EB (bRd I)) ∅ (E := Set.univ)).trans ?_)
  iintro H
  imod H with ⟨%κ, -, Hinv⟩
  imodintro; iexists κ; iexact Hinv

omit [FloatOps F] in
theorem sum_units (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for what the tiles owe at the barrier, regrouped: each tile the units of its own cell. -/
theorem creds_b : ((P I).oxCred : sProp 𝕄) ⊢ bigSep Finset.univ fun x : DCI => cred (tallyAt (bcellOf x) (some 0) (grid0.bound 1)) := by
  unfold SparseCore.Cfg.Pay.oxCred
  rw [SparseCore.Cfg.bigSep_threads (fun thr : Thread nD τ => (cred ((P I).oxFrom 0 thr) : sProp 𝕄))]
  refine sep_elim_right.trans (sep_elim_right.trans ?_)
  rw [bigSep_univ_prod, bigSep_univ_prod (fun x : DCI => (cred (tallyAt (bcellOf x) (some 0) (grid0.bound 1)) : sProp 𝕄))]
  refine bigSep_mono fun d _ => ?_
  rw [bigSep_univ_prod, bigSep_univ_prod (fun x : Fin τ.nSC × Fin τ.nSub => (cred (tallyAt (bcellOf (d, x)) (some 0) (grid0.bound 1)) : sProp 𝕄))]
  refine bigSep_mono fun c _ => ?_
  have hox : ∀ i, (P I).oxFrom 0 (V d c i) = oxV d c := fun i => by
    rw [show (0 : ℕ) = (0 : Fin 1).val from rfl, (P I).oxFrom_step, (P I).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_units]; rfl

omit [FloatOps F] in
theorem bigSep_none {A : Type} (s : Finset A) : (bigSep s fun _ => iprop(emp)) = (iprop(emp) : sProp 𝕄) := bigSep_emp_const s

omit [FloatOps F] in
/-- A persistent fact is there for each conjunct. -/
theorem bigSep_with {A : Type} [DecidableEq A] {R : sProp 𝕄} [BI.Persistent R] {s : Finset A} {Φ Ψ : A → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a); isplitr; · iexact HR
      iexact Ha
    · iapply ih; isplitr; · iexact HR
      iexact Hs

omit [FloatOps F] in
theorem toks_eq : (bigSep bToks fun x => (dutyTok EB x.1 x.2.1 x.2.2 : sProp 𝕄))
    = bigSep Finset.univ fun x : DCI => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  have hi : i = i' := Fin.ext (Prod.mk.inj (Prod.mk.inj e).2).2
  obtain ⟨rfl, h⟩ := Prod.mk.inj (Prod.mk.inj (Prod.mk.inj e).1).1
  obtain ⟨rfl, hj⟩ := Proc.scVector.inj h
  have hj' : j = j' := Fin.ext (congrArg Fin.val hj)
  subst hi hj'
  rfl

theorem Px_T (d : Dev nD) : (bigSep Finset.univ fun q : Fin 1 => (P I).x q (SparseCore.T d)) = iprop(emp) :=
  bigSep_univ_of_subsingleton (0 : Fin 1)
theorem Px_S (d : Dev nD) (c : Fin τ.nSC) : (bigSep Finset.univ fun q : Fin 1 => (P I).x q (S d c)) = iprop(emp) :=
  bigSep_univ_of_subsingleton (0 : Fin 1)
theorem Px_V (d : Dev nD) (c : Fin τ.nSC) (i : Fin τ.nSub) : (bigSep Finset.univ fun q : Fin 1 => (P I).x q (V d c i)) = bkit I d c i :=
  bigSep_univ_of_subsingleton (0 : Fin 1)

omit [FloatOps F] in
theorem bCells_eq (Φ : GSem nD τ sig → sProp 𝕄) : bigSep bCells Φ = bigSep Finset.univ fun x : DCI => Φ (bcellOf x) := by
  unfold bCells; exact SparseCore.bigSep_image_of_injOn (fun a _ b _ e => bcellOf_injective e) Φ

/-- What all tiles are handed alike: every barrier cell's invariant, and that each has reached round 0. -/
abbrev alike : sProp 𝕄 :=
  iprop((∃ κ : GSem nD τ sig → ℕ, bigSep Finset.univ fun x : DCI => cellInv EB (bRd I) (κ (bcellOf x)) (bcellOf x))
    ∗ bigSep Finset.univ fun x : DCI => reached EB (bcellOf x) 0)
/-- What each tile is handed of its own. -/
abbrev own1 (x : DCI) : sProp 𝕄 :=
  iprop(atPos EB (bcellOf x) 0 ∅ 0
    ∗ (bigSep Finset.univ fun j : Fin (grid0.bound 1) => dutyTok EB (bcell x.1 x.2.1 (j.castLE hsub0)) 0 x.2.2.val)
    ∗ cred (tallyAt (bcellOf x) (some 0) (grid0.bound 1)))

omit [FloatOps F] in
/-- From a persistent fact of all tiles, the fact of each tile of one SparseCore. -/
theorem row_of_all {Φ : DCI → sProp 𝕄} [BI.Persistent (bigSep Finset.univ Φ)] (d : Dev nD) (c : Fin τ.nSC) :
    bigSep Finset.univ Φ ⊢ bigSep Finset.univ fun j : Fin (grid0.bound 1) => Φ (d, c, j.castLE hsub0) := by
  iintro #H
  iapply (SparseCore.ent (bigSep_with (s := (Finset.univ : Finset (Fin (grid0.bound 1)))) (Φ := fun _ => iprop(emp)) (R := bigSep Finset.univ Φ)
    fun j => sep_elim_left.trans (SparseCore.ent (bigSep_elim (Φ := Φ) (Finset.mem_univ (d, c, j.castLE hsub0))))))
  isplitl; · iexact H
  rw [bigSep_none]; iempintro

/-- One tile's kit. -/
theorem kit_intro (x : DCI) : iprop(alike I ∗ own1 x) ⊢ (bkit I x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (row_of_all (F := F) (Φ := fun x : DCI => cellInv EB (bRd I) (κ (bcellOf x)) (bcellOf x)) d c); iexact Hinv
  isplitl [Htok]; · iexact Htok
  isplitr
  · iapply (row_of_all (F := F) (Φ := fun x : DCI => reached EB (bcellOf x) 0) d c); iexact Hr
  isplitl [Hat]; · iexact Hat
  iexact Hcred

/-- Each tile its kit. -/
theorem kits_deal :
    iprop(alike I ∗ (bigSep Finset.univ fun x : DCI => atPos EB (bcellOf x) 0 ∅ 0)
        ∗ (bigSep Finset.univ fun x : DCI => bigSep Finset.univ fun j : Fin (grid0.bound 1) => dutyTok EB (bcell x.1 x.2.1 (j.castLE hsub0)) 0 x.2.2.val)
        ∗ (bigSep Finset.univ fun x : DCI => cred (tallyAt (bcellOf x) (some 0) (grid0.bound 1))))
      ⊢ (bigSep Finset.univ fun thr : Thread nD τ => bigSep Finset.univ fun q : Fin 1 => (P I).x q thr : sProp 𝕄) := by
  rw [SparseCore.Cfg.bigSep_threads (fun thr : Thread nD τ => bigSep Finset.univ fun q : Fin 1 => (P I).x q thr)]
  simp only [Px_T, Px_S, Px_V, bigSep_none]
  iintro ⟨#Hall, Hat, Htok, Hcred⟩
  isplitr; · iempintro
  isplitr; · iempintro
  iapply (bigSep_with (R := alike I) (Φ := own1 (F := F)) fun x => kit_intro I x)
  isplitr; · iexact Hall
  unfold own1
  rw [bigSep_sep', bigSep_sep']
  isplitl [Hat]; · iexact Hat
  isplitl [Htok]; · iexact Htok
  iexact Hcred

/-- The finishing call's ghost state on device `d`. -/
abbrev fin₀ (d : Dev nD) : sProp 𝕄 :=
  iprop(Pipeline.cellsGhost (nD := nD) (τ := τ) cfgs EP 0 d ∗ Pipeline.toksInit (nD := nD) (τ := τ) cfgs EP 0 d)

omit [FloatOps F] in
theorem fund_fin : (BI.own (EP pInit) : sProp 𝕄) ⊢ |==> bigSep Finset.univ fun d : Dev nD => fin₀ (F := F) d := by
  unfold pInit fin₀
  refine (Pipeline.fund_ghost cfgs EP cellOf_inj).trans (BI.bupd_mono ?_)
  rw [bigSep_sep']
  refine BI.sep_mono (bigSep_mono fun d _ => ?_) (bigSep_mono fun d _ => ?_)
  · exact Entails.of_eq (bigSep_univ_of_subsingleton (0 : Fin 1))
  · exact Entails.of_eq (bigSep_univ_of_subsingleton (0 : Fin 1))

/-- The launch's ghost state, dealt. -/
theorem hu₀ : iprop(ownU (u₀ (F := F)) ∗ (P I).oxCred ∗ (K (F := F)).freeOn (· ∈ bCells))
    ⊢ |={Set.univ}=> iprop(BI.own (EH (initOf (K (F := F)).hsCells (K (F := F)).hsToks)) ∗ (bigSep Finset.univ fun d : Dev nD => fin₀ d)
        ∗ (bigSep Finset.univ fun thr : Thread nD τ => bigSep Finset.univ fun q : Fin 1 => (P I).x q thr) : sProp 𝕄) := by
  unfold u₀
  iintro ⟨Hu, Hcred, Hfree⟩
  ihave H := (ownU_split _ _ _) $$ Hu
  icases H with ⟨HH, HB, HP⟩
  imod (Rounds.fund EB (bRd I) bCells bToks) $$ HB with ⟨Hst, #Hr, Hat, Htok⟩
  imod (fund_fin (F := F)) $$ HP with Hfin
  ihave Hsems := (sems_b (F := F)) $$ Hfree
  imod (invs_b I) $$ [Hsems Hst] with ⟨%κ, #Hinv⟩
  · isplitl [Hsems] <;> iassumption
  ihave Hcred' := (creds_b I) $$ Hcred
  ihave Hinv' := (Entails.of_eq (bCells_eq (F := F) fun g => cellInv EB (bRd I) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hfin]; · iexact Hfin
  iapply (kits_deal I)
  isplitr
  · isplitl; · iexists κ; iexact Hinv'
    iexact Hr'
  isplitl [Hat']; · iexact Hat'
  isplitl [Htok']; · iexact Htok'
  iexact Hcred'

end Cert.Proof

end
-- ==== Proof.Region.lean ====
/-
  The finishing call: on the TensorCore, one point over the whole array of partial results and the one-element result.
  It leaves the result at the partial sums added up and divided by the number of matches.
-/
module

public import proofs.«01_k».proof.Proof.Launch
public import Idealize.ShloMosaic.Lib.Pipeline.ValueKit.Geometry

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The finishing call's result before it is made a scalar. -/
abbrev rLoc (d : Dev nD) : Loc nD τ sig := (SparseCore.T d).loc main_v4

abbrev stIn : Memref sig .tc .vmem S64x16 .f32 := stage1_0 0
abbrev stOut : Memref sig .tc .vmem S1x1 .f32 := stage1_1 0

theorem readIn (c : Dev nD) (f : Buf (Elt F) (stIn.view.loc (c : Thread nD τ))) :
    View.readAt (Elt F) stIn.view (Rect.unit (s := S64x16) ![0, 0] S64x16.size inb_S64x16_S64x16_0_0).toLoadRect f = f := by
  exact Memref.readAt_unit_zero (Elt F) cc1_stg0_0 (show (![0, 0] : Fin 2 → ℕ) = fun _ => 0 by decide) inb_S64x16_S64x16_0_0 f

theorem writeOut (f w : Vec F S1x1 .f32) :
    stOut.view.writes (Elt F) f [⟨Rect.unit (s := S1x1) ![0, 0] S1x1.size inb_S1x1_S1x1_0_0, w⟩] = w :=
  Memref.write_access_unit_zero_univ (Elt F) cc1_stg1_0 (show (![0, 0] : Fin 2 → ℕ) = fun _ => 0 by decide) inb_S1x1_S1x1_0_0 f w

/-- The body: the staged array read, the result's staging buffer written. -/
theorem finish_body (c : Dev nD) (f : Buf (Elt F) (stIn.view.loc (c : Thread nD τ))) (g : Buf (Elt F) (stOut.view.loc (c : Thread nD τ)))
    (E : Set ℕ) (Q : PUnit → sProp 𝕄) :
    iprop((stIn.view.loc (c : Thread nD τ) ↦{fullShare} f) ∗ (stOut.view.loc (c : Thread nD τ) ↦{fullShare} g)
        ∗ (iprop((stIn.view.loc (c : Thread nD τ) ↦{fullShare} f) ∗ (stOut.view.loc (c : Thread nD τ) ↦{fullShare} (k1_pay1 (F := F) f))) -∗ Q ⟨⟩))
      ⊢ wp frame (wpE (defs₀ (F := F)) Variants.none c none) E (cc1__finish_body stIn (hstage1_0 0) stOut (hstage1_1 0)) Q := by
  rw [cc1__finish_body_eq_skeleton]
  iintro ⟨H0, H1, Hk⟩
  unfold cc1__finish_body_skel
  sl_exec!
  sl_step
  iapply Hk
  isplitl [H0]; · iexact H0
  unfold finish_body.sl.H1_1
  rw [readIn]
  ihave H2 := (Entails.of_eq (congrArg (fun h => (stOut.view.loc (c : Thread nD τ) ↦{fullShare} h : sProp 𝕄)) (writeOut (F := F) stOut.view.junk (k1_pay1 f)))) $$ H1
  iexact H2

/-! ## The call's proof data -/

variable (f : (d : Dev nD) → Buf (Elt F) (oLoc d)) (g : (d : Dev nD) → Buf (Elt F) (rLoc d))

/-- The array of partial results as the call's fetch stages it. -/
abbrev staged (c : Dev nD) : (cfg1.win 0).block.Idx → Elt F (cfg1.win 0).elt := ((cfg1.win 0).blk t1_0).view.read (Elt F) (f c)

theorem staged_eq (c : Dev nD) : staged f c = f c := by
  funext x
  refine congrArg (f c) (funext fun a => Fin.ext ?_)
  match a with
  | 0 => exact (Nat.zero_add _).trans (Nat.one_mul _)
  | 1 => exact (Nat.zero_add _).trans (Nat.one_mul _)

/-- The arrays as the call finds them; after the body, the first staged as it was and the second the sums' quotient. -/
def dat (c : Dev nD) : Dat τ (Elt F) (HIx 1) ℕ UU ℕ cfg1 c where
  A w := match w with
    | ⟨0, _⟩ => f c
    | ⟨1, _⟩ => g c
  after w _ := match w with
    | ⟨0, _⟩ => staged f c
    | ⟨1, _⟩ => k1_pay1 (F := F) (f c)
  Φ _ := BI.emp
  q _ := fullShare
  owed _ := 0

/-- The pipeline takes no table. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat f g c

theorem before_in (c : Dev nD) (d : (cfg1.win 0).block.Idx → Elt F (cfg1.win 0).elt) : (dat f g c).before 0 t1_0 d = staged f c := by
  unfold Dat.before; rw [if_pos (by decide)]; rfl

/-- The body meets the proof data. -/
theorem body_obligation (c : Dev nD) : BodyObligation (dat f g c) (defs₀ (F := F)) Variants.none none Set.univ := fun t => by
  obtain rfl := fin_N1 t
  rw [bigSep_W1, bigSep_W1]
  simp only [owns_whole_eq]
  rw [show (dat f g c).Φ t1_0.castSucc = BI.emp from rfl, show (dat f g c).Φ t1_0.succ = BI.emp from rfl,
    show (dat f g c).owesAt none t1_0.succ = (dat f g c).owesAt none t1_0.castSucc from rfl]
  iintro ⟨-, Howes, ⟨%d0, %f0, %hf0, H0⟩, ⟨%d1, %f1, -, H1⟩⟩
  rw [before_in] at hf0
  subst hf0
  iapply (finish_body c (staged f c) f1 Set.univ _)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [dat]
  iexists _; isplitr; swap; (· iexact H1); ipureintro; dsimp only [dat]
  rw [staged_eq]

/-- What the call leaves in its result. -/
theorem stored_eq (c : Dev nD) : (dat f g c).arrAt 1 cfg1.N = k1_pay1 (F := F) (f c) := by
  refine (dat f g c).arrAt_eq_of_after_last 1 t1_0 (by decide +kernel) _ fun j => ?_
  rfl

theorem arrs_eq (c : Dev nD) (G : (w : Fin 2) → Buf (Elt F) (((cfg1.win w).arr).view.loc (c : Thread nD τ))) :
    ((pdats f g 0 c).arrays G : sProp 𝕄) = iprop((oLoc c ↦{fullShare} G 0) ∗ rLoc c ↦{fullShare} G 1) := by
  unfold Dat.arrays
  refine (bigSep_W1 _).trans ?_
  rw [(arr_whole1 0).set_eq_univ, (arr_whole1 1).set_eq_univ, (pdats f g 0 c).share_full (fun _ => rfl) 0, (pdats f g 0 c).share_full (fun _ => rfl) 1]

/-- The two arrays at contents `f` and `g`, and nothing owed. -/
abbrev callPre (c : Dev nD) : sProp 𝕄 :=
  iprop((oLoc c ↦{fullShare} f c) ∗ (rLoc c ↦{fullShare} g c) ∗ ∃ W, owes (c : Thread nD τ) (0 : CellTallies nD τ sig (HIx 1)) W)

/-- The call as the pipeline library runs it. -/
def reg : Pipeline.RegionSeg (pcfgs (F := F)) adm (pdats f g) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation f g c).loose
  hwaits := Pipeline.hwaits_of_owed_zero _ _ _ _ (K (F := F)).L (K (F := F)).lev 0 fun _ _ => rfl
  pre c := callPre f g c
  post c := callPre f (fun c => k1_pay1 (F := F) (f c)) c
  X _ := BI.emp
  Y _ := BI.emp
  Z _ := BI.emp
  hentry c := by
    rw [Pipeline.ownSems0_none, arrs_eq]
    iintro ⟨⟨H3, H4, HO⟩, -, -⟩
    imodintro
    isplitl [H3 H4]
    · isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr <;> iempintro
  hin c := by
    rw [show (pdats f g 0 c).Φ 0 = BI.emp from rfl]
    iintro ⟨-, -, -⟩; iempintro
  hout c := by
    rw [Pipeline.ownSems0_none]
    iintro -
    isplitr; · iempintro
    isplitr; · iempintro
    iapply (Entails.of_eq (scopedRest1_eq (Ix := HIx 1) (Val := Elt F) (Name := ℕ) (U := UU) (Lvl := ℕ) c).symm)
    iempintro
  hexit c := by
    have e0 : (pdats f g 0 c).arrAt 0 (Pipeline.pin (pcfgs (F := F)) adm 0).N = f c := (dat f g c).arrAt_in 0 rfl cfg1.N
    have e1 : (pdats f g 0 c).arrAt 1 (Pipeline.pin (pcfgs (F := F)) adm 0).N = k1_pay1 (F := F) (f c) := stored_eq f g c
    rw [arrs_eq, e0, e1]
    iintro ⟨⟨H3, H4⟩, HO, -, -⟩
    imodintro
    isplitl [H3]; · iexact H3
    isplitl [H4]; · iexact H4
    unfold Pipeline.Dat.owesAt Pipeline.owesWithin
    icases HO with ⟨%W, -, HO⟩; iexists W; iexact HO

/-- The call by the library's rule for a region. -/
theorem wp_entry [∀ e, Nonempty (Elt F e)] (d : Dev nD) (Φ : PUnit → sProp 𝕄) :
    iprop((iprop(boundary (d : Thread nD τ) ∗ (reg f g).post d) -∗ wp frame (wpE (D (F := F)) 𝒱 (SparseCore.T d) none) Set.univ (Prog.ret ⟨⟩) Φ)
        ∗ boundary (d : Thread nD τ) ∗ (reg f g).pre d ∗ levAts (K (F := F)).L (K (F := F)).lev ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ
          (.op (.customCall (Pipeline.entry 0) ()) Prog.ret) Φ :=
  Pipeline.RegionSeg.wp (pcfgs (F := F)) adm (pdats f g) none cellOf_inj (EP (F := F)) (defs₀ (F := F)) 𝒱₀ (K (F := F)).L (K (F := F)).lev
    (reg f g) d none (fun u hu => absurd hu (Option.not_mem_none u)) (α := PUnit) Prog.ret Φ

/-- The call among @main's calls is the call among the kernels'. -/
theorem wp_lifted (d : Dev nD) (Φ : PUnit → sProp 𝕄) :
    (wp frame (wpE (D (F := F)) 𝒱 (SparseCore.T d) none) Set.univ
          (.op (.customCall (Pipeline.entry 0) ()) Prog.ret) Φ) ⊢ wp frame (wpE ((K (F := F)).defs (D (F := F))) 𝒱 (SparseCore.T d) none) Set.univ
          (Prog.lift (.customCall (SparseCore.inner (Pipeline.entry 0)) ())) Φ :=
  (K (F := F)).wp_liftProg (D (F := F)) 𝒱 (SparseCore.T d) Set.univ none (.op (.customCall (Pipeline.entry 0) ()) Prog.ret) Φ

/-- The finishing call on device `d`'s TensorCore: from the partial results `f`, the result at `k1_pay1 f`. -/
theorem wp_finish [∀ e, Nonempty (Elt F e)] (d : Dev nD) (Φ : PUnit → sProp 𝕄) :
    iprop((iprop(boundary (SparseCore.T d) ∗ callPre f (fun c => k1_pay1 (F := F) (f c)) d) -∗ Φ ⟨⟩)
        ∗ boundary (SparseCore.T d) ∗ callPre f g d ∗ levAts (K (F := F)).L (K (F := F)).lev ∗ fin₀ (F := F) d)
      ⊢ wp frame (wpE ((K (F := F)).defs (D (F := F))) 𝒱 (SparseCore.T d) none) Set.univ
          (Prog.lift (.customCall (SparseCore.inner (Pipeline.entry 0)) ())) Φ := by
  refine BI.Entails.trans ?_ ((wp_entry f g d Φ).trans (wp_lifted d Φ))
  refine BI.sep_mono ?_ (BI.Entails.refl _)
  show iprop(iprop(boundary (SparseCore.T d) ∗ callPre f (fun c => k1_pay1 (F := F) (f c)) d) -∗ Φ ⟨⟩) ⊢
    iprop(iprop(boundary (SparseCore.T d) ∗ callPre f (fun c => k1_pay1 (F := F) (f c)) d)
      -∗ wp frame (wpE (D (F := F)) 𝒱 (SparseCore.T d) none) Set.univ (Prog.ret PUnit.unit) Φ)
  iintro Hk H
  rw [wp_ret]
  imodintro
  iapply Hk; iexact H

end Cert.Proof

end
-- ==== Proof.Run.lean ====
/-
  The whole program: the three inputs laid flat, the SparseCore call, the finishing call, the result made a scalar.
  `run_main` says what every run of it leaves; the frames are read off it.
-/
module

public import proofs.«01_k».proof.Proof.Tile
public import proofs.«01_k».proof.Proof.Region
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.ShloMosaic.StableHlo (held)
open Idealize.ShloMosaic.Transfers (shareTokN shareDrop shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A reshape on the TensorCore -/

/-- The array `f` of `x`, laid out in `y`'s shape. -/
abbrev laid (x y : Ref sig .tc) (he : x.ty.elt = y.ty.elt) (hn : x.ty.shape.ShapeCasts y.ty.shape) (f : x.ty.Contents (Elt F)) : y.ty.Contents (Elt F) :=
  fun i => he ▸ shapeCast y.ty.shape f hn i

/-- A reshape leaves its operand and lays its contents out in the result. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false) (hxy : x ≠ y)
    (m : (ℓ : Loc nD τ sig) → Buf (Elt F) ℓ) (f : Buf (Elt F) ((T d : Thread nD τ).loc x)) (g : Buf (Elt F) ((T d : Thread nD τ).loc y)) (Φ : PUnit → sProp 𝕄) :
    iprop((boundary (T d) ∗ ((T d : Thread nD τ).loc x ↦{fullShare} f) ∗ (T d : Thread nD τ).loc y ↦{fullShare} g)
        ∗ ((boundary (T d) ∗ ((T d : Thread nD τ).loc x ↦{fullShare} f) ∗ (T d : Thread nD τ).loc y ↦{fullShare} laid x y he hn f) -∗ Φ ⟨⟩))
      ⊢ wp frame (wpE ((K (F := F)).defs (D (F := F))) 𝒱 (T d) none) Set.univ
          (hlo rfl (StableHlo.reshape (τ := τ) x y he hn hx hy) (fun _ => .ret ⟨⟩)) Φ := by
  classical
  have hne : (Proc.devRef (τ := τ) .tc x) ≠ Proc.devRef .tc y := StableHlo.devRef_ne_of_ne hxy
  let V₀ : Valuation τ sig (Elt F) := fun b => m (d, b)
  let V : Valuation τ sig (Elt F) := Function.update (Function.update V₀ (Proc.devRef .tc x) f) (Proc.devRef .tc y) g
  have hVx : V (Proc.devRef .tc x) = f := by
    show Function.update _ _ _ _ = _
    rw [Function.update_of_ne hne, Function.update_self]
  have hVy : V (Proc.devRef .tc y) = g := Function.update_self _ _ _
  have hS : (StableHlo.reshape (τ := τ) (Val := Elt F) x y he hn hx hy).bufs ⊆ {Proc.devRef .tc x, Proc.devRef .tc y} := by
    exact le_of_eq (StableHlo.reshape_bufs (he := he) (hn := hn) (hx := hx) (hy := hy))
  have h0 : (held (T d) {Proc.devRef .tc x, Proc.devRef .tc y} V : sProp 𝕄)
      = iprop(((T d : Thread nD τ).loc x ↦{fullShare} f) ∗ (T d : Thread nD τ).loc y ↦{fullShare} g) := by
    unfold held
    rw [SparseCore.bigSep_insert' (by rw [Finset.mem_singleton]; exact hne), bigSep_singleton, hVx, hVy]; try rfl
  have h1 : (held (T d) {Proc.devRef .tc x, Proc.devRef .tc y} ((StableHlo.reshape (τ := τ) x y he hn hx hy).result V) : sProp 𝕄)
      = iprop(((T d : Thread nD τ).loc x ↦{fullShare} f) ∗ (T d : Thread nD τ).loc y ↦{fullShare} laid x y he hn f) := by
    unfold held
    rw [SparseCore.bigSep_insert' (by rw [Finset.mem_singleton]; exact hne), bigSep_singleton, StableHlo.reshape_result, StableHlo.reshape_result_ne x y he hn hx hy V hxy, hVx]; try rfl
  iintro ⟨⟨Hb, Hxy⟩, Hk⟩
  iapply (StableHlo.wp_hlo_within 𝒱 (T d) none Set.univ (defs := (K (F := F)).defs (D (F := F))) (op := StableHlo.reshape (τ := τ) x y he hn hx hy)
    (k := fun _ => .ret ⟨⟩) (Q := Φ) hS (V := V)) $$ [Hb Hxy]
  · rw [h0]
    isplitl [Hb] <;> iassumption
  rw [h1, wp_ret]
  iintro H
  imodintro
  iapply Hk
  iexact H

/-! ## Dealing the arrays to the tiles -/

omit [FloatOps F] in
/-- The tiles by number are the tiles by SparseCore. -/
theorem deal (Φ : ℕ → sProp 𝕄) :
    (bigSep Finset.univ fun w : Fin 32 => Φ w.val) = bigSep Finset.univ fun c : Fin 2 => bigSep Finset.univ fun i : Fin 16 => Φ (wid c.val i.val) := by
  rw [bigSep_univ_equiv (finProdFinEquiv (m := 2) (n := 16)) (fun w : Fin (2 * 16) => Φ w.val), bigSep_univ_prod]
  refine congrArg _ (funext fun c => congrArg _ (funext fun i => ?_))
  show Φ (i.val + 16 * c.val) = Φ (16 * c.val + i.val)
  rw [Nat.add_comm]

omit [FloatOps F] in
theorem orow_disjoint : ∀ i ∈ (Finset.univ : Finset (Fin 64)), ∀ j ∈ (Finset.univ : Finset (Fin 64)), i ≠ j → Disjoint (orow i.val) (orow j.val) := by
  intro i _ j _ hij
  refine Finset.disjoint_left.mpr fun x hx hx' => hij (Fin.ext ?_)
  exact (Finset.mem_filter.mp hx).2.symm.trans (Finset.mem_filter.mp hx').2

omit [FloatOps F] in
theorem orow_cover : (Finset.univ : Finset (Fin 64)).biUnion (fun i => orow i.val) = Finset.univ := by
  ext x
  refine ⟨fun _ => Finset.mem_univ _, fun _ => Finset.mem_biUnion.mpr ⟨⟨(x 0).val, (x 0).isLt⟩, Finset.mem_univ _, ?_⟩⟩
  exact Finset.mem_filter.mpr ⟨Finset.mem_univ _, rfl⟩

omit [FloatOps F] in
/-- The array of partial results is the tiles' pairs of rows. -/
theorem o_rows (d : Dev nD) (f : Buf (Elt F) (oLoc d)) :
    (oLoc d ↦{fullShare} f : sProp 𝕄)
      = bigSep Finset.univ fun w : Fin 32 => iprop((oLoc d ↦[orow w.val]{fullShare} f) ∗ oLoc d ↦[orow (32 + w.val)]{fullShare} f) := by
  have h : (oLoc d ↦{fullShare} f : sProp 𝕄) = bigSep Finset.univ fun n : Fin 64 => oLoc d ↦[orow n.val]{fullShare} f := by
    rw [← pointsTo_biUnion Finset.univ (ℓ := oLoc d) (fun n : Fin 64 => orow n.val) orow_disjoint, orow_cover]; try rfl
  rw [h, bigSep_univ_equiv (finSumFinEquiv (m := 32) (n := 32)) (fun n : Fin (32 + 32) => (oLoc d ↦[orow n.val]{fullShare} f : sProp 𝕄)), bigSep_sep']
  rw [bigSep_univ_sum]
  rfl

variable (m : (ℓ : Loc nD τ sig) → Buf (Elt F) ℓ) (ρ : Dev nD → PrngReg)

/-- The three inputs laid flat. -/
def insOf (d : Dev nD) : Ins F :=
  ⟨laid main_arg1 main_v0 rfl shapeCasts_S8x65472x1_S523776 (m ((T d : Thread nD τ).loc main_arg1)),
    laid main_arg0 main_v1 rfl shapeCasts_S8x512x4_S16384 (m ((T d : Thread nD τ).loc main_arg0)),
    laid main_arg2 main_v2 rfl shapeCasts_S8x65472x4_S2095104 (m ((T d : Thread nD τ).loc main_arg2))⟩

variable (I : Dev nD → Ins F)

/-- The flat inputs and the array of partial results, dealt to the tiles. -/
theorem deal_in (d : Dev nD) (o : Buf (Elt F) (oLoc d)) :
    iprop((mLoc d ↦{fullShare} (I d).M) ∗ (tLoc d ↦{fullShare} (I d).T) ∗ (bLoc d ↦{fullShare} (I d).B) ∗ oLoc d ↦{fullShare} o)
      ⊢ (bigSep Finset.univ fun c : Fin ((K (F := F)).nCore 0) => (P I).st 0 d c : sProp 𝕄) := by
  have e : (bigSep Finset.univ fun c : Fin ((K (F := F)).nCore 0) => (P I).st 0 d c : sProp 𝕄)
      = bigSep Finset.univ fun w : Fin 32 => iprop(ins I d w.val ∗ outs0 d w.val) :=
    (deal fun w => iprop(ins I d w ∗ outs0 d w)).symm
  rw [e, bigSep_sep']
  unfold ins
  rw [bigSep_sep', bigSep_sep', o_rows]
  iintro ⟨HM, HT, HB, Ho⟩
  ihave HM' := (Transfers.pointsTo_toks fullShare 32).1 $$ HM
  ihave HT' := (Transfers.pointsTo_toks fullShare 32).1 $$ HT
  ihave HB' := (Transfers.pointsTo_toks fullShare 32).1 $$ HB
  icases HM' with ⟨-, HM⟩
  icases HT' with ⟨-, HT⟩
  icases HB' with ⟨-, HB⟩
  isplitl [HM HT HB]
  · isplitl [HM]; · iexact HM
    isplitl [HT]; · iexact HT
    iexact HB
  unfold outs0
  iapply (SparseCore.ent (bigSep_mono (s := (Finset.univ : Finset (Fin 32)))
    (Φ := fun w : Fin 32 => iprop((oLoc d ↦[orow w.val]{fullShare} o) ∗ (oLoc d ↦[orow (32 + w.val)]{fullShare} o) : sProp 𝕄))
    (Ψ := fun w : Fin 32 => iprop((∃ f : Buf (Elt F) (oLoc d), oLoc d ↦[orow w.val]{fullShare} f) ∗ ∃ f : Buf (Elt F) (oLoc d), oLoc d ↦[orow (32 + w.val)]{fullShare} f))
    fun w _ => BI.sep_mono
      (BI.BIClass.exists_intro (Φ := fun f : Buf (Elt F) (oLoc d) => (oLoc d ↦[orow w.val]{fullShare} f : sProp 𝕄)) o)
      (BI.BIClass.exists_intro (Φ := fun f : Buf (Elt F) (oLoc d) => (oLoc d ↦[orow (32 + w.val)]{fullShare} f : sProp 𝕄)) o)))
  iexact Ho

/-- Every tile's barrier semaphore at zero. -/
def bars0 (d : Dev nD) : sProp 𝕄 := bigSep Finset.univ fun c : Fin 2 => bigSep Finset.univ fun i : Fin 16 => semVal (bcell d (coreOf (F := F) c) i) 0

/-- What the tiles bring back, gathered: the array of partial results, and the barrier semaphores. -/
theorem gather_out (d : Dev nD) :
    (bigSep Finset.univ fun c : Fin ((K (F := F)).nCore 0) => (P I).dn 0 d c : sProp 𝕄) ⊢ iprop((oLoc d ↦{fullShare} of I d) ∗ bars0 d) := by
  have e : (bigSep Finset.univ fun c : Fin ((K (F := F)).nCore 0) => (P I).dn 0 d c : sProp 𝕄)
      = iprop((bigSep Finset.univ fun c : Fin 2 => bigSep Finset.univ fun i : Fin 16 => iprop(ins I d (wid c.val i.val) ∗ outs1 I d (wid c.val i.val))) ∗ bars0 d) := by
    unfold bars0
    rw [← bigSep_sep']
    refine congrArg _ (funext fun c => ?_)
    rw [← bigSep_sep']
    rfl
  rw [e, ← deal fun w => iprop(ins I d w ∗ outs1 I d w), bigSep_sep', o_rows]
  unfold outs1
  iintro ⟨⟨-, Ho⟩, Hs⟩
  isplitl [Ho]; · iexact Ho
  iexact Hs

/-! ## @main -/

omit [FloatOps F] in
/-- The TensorCore's buffers the launch finds, by name. -/
theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1)
      ∗ ((T d : Thread nD τ).loc main_arg2 ↦{fullShare} W main_arg2) ∗ (mLoc d ↦{fullShare} W main_v0) ∗ (tLoc d ↦{fullShare} W main_v1)
      ∗ (bLoc d ↦{fullShare} W main_v2) ∗ (oLoc d ↦{fullShare} W main_v3) ∗ (rLoc d ↦{fullShare} W main_v4)
      ∗ (T d : Thread nD τ).loc main_v5 ↦{fullShare} W main_v5) := by
  unfold unscopedBufs
  rw [show (Finset.univ.filter fun b : Ref sig .tc => ¬ b.isScoped)
      = {main_arg0, main_arg1, main_arg2, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- After the call the TensorCore owes nothing, -/
theorem Otc_one (d : Dev nD) : (K (F := F)).Otc (N := 1) d 1 = 0 := by
  unfold SparseCore.Cfg.Otc
  refine Finset.sum_eq_zero fun q _ => if_neg ?_
  have := q.isLt; omega

/-- and whatever pairs it has recorded are below the next call. -/
theorem WBelow_one (thr : Thread nD τ) (W) : (K (F := F)).WBelow (N := 1) thr W (8 * (inferInstance : SparseCore.Cfg.Blocks 1 1).fst 1) := by
  intro p _
  show (K (F := F)).lev (thr, p.1) p.2 ≤ 8
  rcases p.2 with _ | q
  · exact Nat.zero_le _
  · have := (K (F := F)).lev_some_le (thr, p.1) q; have := q.isLt; omega

/-- The program's result. -/
abbrev resf (d : Dev nD) : Buf (Elt F) ((T d : Thread nD τ).loc main_v5) :=
  laid main_v4 main_v5 rfl shapeCasts_S1x1_S_ (k1_pay1 (F := F) (of (insOf m) d))

/-- What the TensorCore ends with: the arguments as they were, the result, the barrier semaphores at zero. -/
def FIN (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_v5 ↦{fullShare} resf m d) ∗ bars0 d)

/-- @main on device `d`'s TensorCore. -/
theorem hmain [∀ e, Nonempty (Elt F e)] (κ : GSem nD τ sig → ℕ) (d : Dev nD) :
    iprop((K (F := F)).ctx EH (P (insOf m)) κ ∗ (K (F := F)).tcSt EH d 0 ∗ (K (F := F)).tcRes m ρ d ∗ fin₀ (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, Hm, Ht, Hbb, Ho, Hr, H5⟩, Hts, -⟩, HG⟩
  iapply (wp_reshape d main_arg1 main_v0 rfl shapeCasts_S8x65472x1_S523776 _ _ (by decide) m)
  isplitl [Hb H1 Hm]
  · isplitl [Hb]; · iexact Hb
    isplitl [H1] <;> iassumption
  iintro ⟨Hb, H1, Hm⟩
  iapply (wp_reshape d main_arg0 main_v1 rfl shapeCasts_S8x512x4_S16384 _ _ (by decide) m)
  isplitl [Hb H0 Ht]
  · isplitl [Hb]; · iexact Hb
    isplitl [H0] <;> iassumption
  iintro ⟨Hb, H0, Ht⟩
  iapply (wp_reshape d main_arg2 main_v2 rfl shapeCasts_S8x65472x4_S2095104 _ _ (by decide) m)
  isplitl [Hb H2 Hbb]
  · isplitl [Hb]; · iexact Hb
    isplitl [H2] <;> iassumption
  iintro ⟨Hb, H2, Hbb⟩
  iapply ((K (F := F)).wp_run (D (F := F)) 𝒱 (EH := EH) (P := P (insOf m)) κ d 0)
  isplitr; · iexact Hctx
  isplitl [Hst]; · iexact Hst
  isplitl [Hm Ht Hbb Ho]
  · iapply (deal_in (insOf m) d (m (oLoc d)))
    isplitl [Hm]; · iexact Hm
    isplitl [Ht]; · iexact Ht
    isplitl [Hbb]; · iexact Hbb
    iexact Ho
  iintro ⟨Hst, Hdn⟩
  ihave Hdn' := (gather_out (insOf m) d) $$ Hdn
  icases Hdn' with ⟨Ho, Hbars⟩
  ihave Hst' := (Entails.of_eq (show ((K (F := F)).tcSt EH d ((0 : Fin 1).val + 1) : sProp 𝕄) = (K (F := F)).tcSt EH d 1 from rfl)) $$ Hst
  unfold SparseCore.Cfg.tcSt
  icases Hst' with ⟨⟨%W, -, HO⟩, Hrest⟩
  ihave #Hlev := ((K (F := F)).ctx_levAts κ) $$ Hctx
  iapply (wp_finish (fun d => of (insOf m) d) (fun d => m (rLoc d)) d)
  unfold callPre
  isplitr [Hb Ho Hr HO HG]
  · iintro ⟨Hb, Ho, Hr, ⟨%W', HO⟩⟩
    iapply (wp_reshape d main_v4 main_v5 rfl shapeCasts_S1x1_S_ _ _ (by decide) m)
    isplitl [Hb Hr H5]
    · isplitl [Hb]; · iexact Hb
      isplitl [Hr] <;> iassumption
    iintro ⟨Hb, Hr, H5⟩
    imodintro
    isplitl [HO Hrest]
    · isplitl [HO]
      · iexists W'
        isplitr
        · ipureintro; exact WBelow_one _ _
        · rw [Otc_one]; iexact HO
      · iexact Hrest
    isplitr [Hb Hts]
    · unfold FIN
      isplitl [H0]; · iexact H0
      isplitl [H1]; · iexact H1
      isplitl [H2]; · iexact H2
      isplitl [H5]; · iexact H5
      iexact Hbars
    isplitl [Hb] <;> iassumption
  isplitl [Hb]; · iexact Hb
  isplitl [Ho Hr HO]
  · isplitl [Ho]; · iexact Ho
    isplitl [Hr]; · iexact Hr
    iexists W
    rw [Otc_one]; iexact HO
  isplitr; · iexact Hlev
  iexact HG

/-! ## The runs and the frames -/

/-- What the final state of device `d` is read to hold. -/
def fq (d : Dev nD) (s' : Phys nD τ sig (Elt F)) : Prop :=
  (s'.mem.mem ((T d : Thread nD τ).loc main_v5) = resf m d
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2))
  ∧ ∀ (c : Fin 2) (i : Fin 16), s'.mem.sem (bcell d (coreOf (F := F) c) i) = 0

omit [FloatOps F] in
/-- A buffer held whole is read off the state. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  intro x hx
  have pick : ∀ {A : sProp 𝕄} {φ : Prop}, (iprop(A ∗ SI s') ⊢ (⌜φ⌝ : sProp 𝕄)) → (iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_v5 ↦{fullShare} resf m d) ∗ bars0 d) ⊢ A) → φ :=
    fun h h' => ((Laws.sep_mono_left h').trans h) x hx
  refine ⟨⟨pick (read_whole _ _ s') ?_, pick (read_whole _ _ s') ?_, pick (read_whole _ _ s') ?_, pick (read_whole _ _ s') ?_⟩,
    fun c i => pick (A := semVal (bcell d (coreOf (F := F) c) i) 0) (SparseCore.Cfg.semVal_zero_read _ s') ?_⟩
  · iintro ⟨-, -, -, H, -⟩; iexact H
  · iintro ⟨H, -⟩; iexact H
  · iintro ⟨-, H, -⟩; iexact H
  · iintro ⟨-, -, H, -⟩; iexact H
  · unfold bars0
    iintro ⟨-, -, -, -, H⟩
    ihave H1 := (SparseCore.ent (bigSep_elim (Φ := fun c : Fin 2 => bigSep Finset.univ fun i : Fin 16 => (semVal (bcell d (coreOf (F := F) c) i) 0 : sProp 𝕄)) (Finset.mem_univ c))) $$ H
    ihave H2 := (SparseCore.ent (bigSep_elim (Φ := fun i : Fin 16 => (semVal (bcell d (coreOf (F := F) c) i) 0 : sProp 𝕄)) (Finset.mem_univ i))) $$ H1
    iexact H2

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ i

/-- What every run ends in: the result, the arguments as they were, every semaphore at zero. -/
def QC : PUnit × MemSt nD τ sig (Elt F) → Prop := fun r =>
  (∀ c : Dev nD, r.2.mem ((c.tc : Thread nD τ).loc main_v5) = resf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
  ∧ r.2.sem = fun _ => 0

/-- Every run of the program ends, in `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (insOf m)) (hA := hA m) facts v₀
    (fun q hq => match q with | 0 => nomatch hq)
    (fun q _ => match q with | 0 => tileObl (insOf m) facts)
    (fun q _ => match q with | 0 => vecSplit (insOf m))
    m ρ main (fun d => fin₀ (F := F) d) (FIN m) (u₀ (F := F)) (hu₀ (insOf m)) (hmain m ρ) (fq m) (hfin m) (QC m) (fun _ h hz => ⟨fun c => (h c).1, hz⟩)

/-- The two printed programs have the same bodies: label by label, processor by processor. -/
theorem bodies_eq : Cert.Kernel.defs₀ (F := Bits) = Cert.KernelIdeal.defs₀ (F := Bits) := by
  funext p l a
  rcases p with _ | c | ⟨c, i⟩ <;> fin_cases l
  all_goals rfl

theorem defs_eq : Cert.Kernel.defs (F := Bits) = Cert.KernelIdeal.defs (F := Bits) := by
  unfold Cert.Kernel.defs Cert.KernelIdeal.defs
  rw [bodies_eq]
  rfl

/-- The kernel as it runs: it ends, its arguments unchanged, its semaphores at zero. -/
theorem frame_kernel : Cert.quiescent_Kernel := by
  intro m ρ _
  have h := (θ_run Cert.KernelIdeal.defs _ _).mono (fun r (h : QC m r) => And.intro (fun c => (h.1 c).2) h.2) (run_main (F := Bits) m ρ)
  rw [← defs_eq] at h
  exact h

/-- The same of the kernel read over the extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference ends, its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.Counts.lean ====
/-
  The kernel's words as numbers: the counts, the running counts and the base rank are the words of the numbers of
  matching anchors before a place, so the rank of an anchor is the word of the matches up to it in its row, less one,
  clipped.
-/
module

public import proofs.«01_k».proof.Proof.Group
public import Idealize.ShloMosaic.Lib.Routing.Ops

@[expose] public section

noncomputable section

namespace Cert.Proof

open Cert.KernelIdeal Cert.KernelIdeal.Gen
open Idealize.ShloMosaic Finset

variable {F : FTy → Type} [FloatOps F]

/-- Whether a match word is the word one, as a number. -/
def bit (x : BitVec 32) : ℕ := if x = 1#32 then 1 else 0

theorem bit_le (x : BitVec 32) : bit x ≤ 1 := by unfold bit; split <;> omega

/-- The widened comparison with one is the word of `bit`. -/
theorem wide_eq (x : BitVec 32) : (IntOp.cmpi .eq x 1#32).setWidth 32 = BitVec.ofNat 32 (bit x) := by
  unfold bit IntOp.cmpi
  by_cases h : x = 1#32
  · subst h; rfl
  · rw [if_neg h, show (x == 1#32) = false by simpa using h]; rfl

/-- A running sum of sixteen words of numbers is the words of the running sums. -/
theorem scan_word (v : IVec S16 32) (g : ℕ → ℕ) (hv : ∀ x : S16.Idx, v x = BitVec.ofNat 32 (g (x 0).val)) (x : S16.Idx) :
    scan .sum v x = BitVec.ofNat 32 (∑ j ∈ range ((x 0).val + 1), g j) := by
  have key : ∀ j : Fin 16, g 0 + (((List.finRange 16).filter fun k => decide (0 < k.val ∧ k.val ≤ j.val)).map fun k => g k.val).sum
      = ∑ i ∈ range (j.val + 1), g i := by
    intro j
    have hl : ∀ j : Fin 16, ((List.finRange 16).filter fun k => decide (0 < k.val ∧ k.val ≤ j.val)).map (fun k => k.val) = List.range' 1 j.val := by
      decide
    have : ((List.finRange 16).filter fun k => decide (0 < k.val ∧ k.val ≤ j.val)).map (fun k => g k.val) = (List.range' 1 j.val).map g := by
      rw [← hl j, List.map_map]; rfl
    rw [this, Finset.sum_range_succ', add_comm]
    congr 1
    rw [List.range'_eq_map_range, List.map_map]
    refine (congrArg List.sum (List.map_congr_left fun k _ => ?_)).trans (rfl : ((List.range j.val).map fun k => g (k + 1)).sum = _)
    exact congrArg g (Nat.add_comm 1 k)
  refine (Routing.foldl_addi_ofNat _ (fun k => v (Shape.ofLane k)) (fun k => g k.val) (fun k _ => hv _) _ (g 0) (hv _)).trans ?_
  exact congrArg (BitVec.ofNat 32) (key (x 0))

/-- The matches of tile `w` are the matches from anchor `16368 · w` on. -/
def one (I : Ins F) (n : ℕ) : ℕ := bit (I.M (at1 (N := 523776) n))

theorem grp_mv (I : Ins F) (w k : ℕ) (hk : k < 1023) (x : S16.Idx) :
    grp (mv I w) k x = I.M (at1 (N := 523776) (16368 * w + (16 * k + (x 0).val))) := by
  have hx : (x 0 : ℕ) < 16 := (x 0).isLt
  unfold grp mv
  rw [at1_val (by omega)]

/-- The running counts of a group. -/
theorem pay22_eq (v : Vec F S16 .i32) (x : S16.Idx) : k0_pay22 (F := F) v x = BitVec.ofNat 32 (bit (v x)) := wide_eq _

theorem pay22_mv (I : Ins F) (w k : ℕ) (hk : k < 1023) (x : S16.Idx) :
    k0_pay22 (F := F) (grp (mv I w) k) x = BitVec.ofNat 32 (one I (16368 * w + (16 * k + (x 0).val))) := by
  rw [pay22_eq, grp_mv I w k hk]; rfl

theorem prefix_mv (I : Ins F) (w k : ℕ) (hk : k < 1023) (x : S16.Idx) :
    scan .sum (k0_pay22 (F := F) (grp (mv I w) k)) x
      = BitVec.ofNat 32 (∑ j ∈ range ((x 0).val + 1), one I (16368 * w + (16 * k + j))) :=
  scan_word _ (fun j => one I (16368 * w + (16 * k + j))) (fun y => pay22_mv I w k hk y) x

/-- The last lane. -/
abbrev lane15 : S16.Idx := fun a => ⟨(![15] : Fin 1 → ℕ) a, inpos_S16_p15 a⟩

/-- The number of matches of group `k`. -/
theorem gcount2_mv (I : Ins F) (w k : ℕ) (hk : k < 1023) :
    gcount2 (grp (mv I w) k) = BitVec.ofNat 32 (∑ j ∈ range 16, one I (16368 * w + (16 * k + j))) :=
  prefix_mv I w k hk lane15

theorem gcount_mv (I : Ins F) (w k : ℕ) (hk : k < 1023) :
    gcount (grp (mv I w) k) = BitVec.ofNat 32 (∑ j ∈ range 16, one I (16368 * w + (16 * k + j))) :=
  prefix_mv I w k hk lane15

theorem sum_groups (f : ℕ → ℕ) (k : ℕ) : ∑ n ∈ range (16 * (k + 1)), f n = ∑ n ∈ range (16 * k), f n + ∑ j ∈ range 16, f (16 * k + j) := by
  rw [show 16 * (k + 1) = 16 * k + 16 by omega, sum_range_add]

theorem addi_word (a b : ℕ) : IntOp.addi (BitVec.ofNat 32 a) (BitVec.ofNat 32 b) = BitVec.ofNat 32 (a + b) :=
  (BitVec.ofNat_add a b).symm

/-- The count over the first `k` groups of tile `w`. -/
theorem cntN_mv (I : Ins F) (w : ℕ) : ∀ k, k ≤ 1023 →
    cntN (mv I w) k = BitVec.ofNat 32 (∑ n ∈ range (16 * k), one I (16368 * w + n))
  | 0, _ => rfl
  | k + 1, hk => by
    rw [sum_groups, ← addi_word, ← cntN_mv I w k (by omega), ← gcount_mv I w k (by omega)]; rfl

theorem cnt_eq (I : Ins F) (w : ℕ) : cnt I w = BitVec.ofNat 32 (∑ n ∈ range 16368, one I (16368 * w + n)) :=
  cntN_mv I w 1023 (by omega)

/-- The matches before group `k`, as the second loop carries them. -/
theorem run_mv (I : Ins F) (w : ℕ) (t : Vec F S2048 .f32) (p : Vec F S65472 .f32) (b : IVec S16 32) : ∀ k, k ≤ 1023 →
    (grpN (mv I w) t p b k).1 = BitVec.ofNat 32 (∑ n ∈ range (16 * k), one I (16368 * w + n))
  | 0, _ => rfl
  | k + 1, hk => by
    rw [sum_groups, ← addi_word, ← run_mv I w t p b k (by omega), ← gcount2_mv I w k (by omega)]; rfl

/-- The base rank of tile `w`: the matches of its row before its first anchor. -/
theorem base_eq (I : Ins F) (w : ℕ) (x : S16.Idx) :
    base I w x = BitVec.ofNat 32 (∑ n ∈ range (16368 * (w % 4)), one I (65472 * (w / 4) + n)) := by
  have h0 : cnt I (w / 4 * 4) = BitVec.ofNat 32 (∑ n ∈ range 16368, one I (65472 * (w / 4) + n)) := by
    rw [cnt_eq]; refine congrArg _ (sum_congr rfl fun n _ => congrArg _ (by omega))
  have h1 : cnt I (w / 4 * 4 + 1) = BitVec.ofNat 32 (∑ n ∈ range 16368, one I (65472 * (w / 4) + (16368 + n))) := by
    rw [cnt_eq]; refine congrArg _ (sum_congr rfl fun n _ => congrArg _ (by omega))
  have h2 : cnt I (w / 4 * 4 + 2) = BitVec.ofNat 32 (∑ n ∈ range 16368, one I (65472 * (w / 4) + (16368 + 16368 + n))) := by
    rw [cnt_eq]; refine congrArg _ (sum_congr rfl fun n _ => congrArg _ (by omega))
  have hb : ∀ a c0 c1 c2 : BitVec 32, k0_pay19 (F := F) a (k0_pay17 (F := F) a (k0_pay16 c0)) (k0_pay16 c1) k0_pay18 (k0_pay16 c2) x
      = 0#32 + (if IntOp.cmpi .slt (0#32 + 0#32) a = 1 then 0#32 + c0 else 0#32) + (if IntOp.cmpi .slt (0#32 + 1#32) a = 1 then 0#32 + c1 else 0#32)
        + (if IntOp.cmpi .slt (0#32 + 2#32) a = 1 then 0#32 + c2 else 0#32) := fun _ _ _ _ => rfl
  unfold base
  rw [hb, h0, h1, h2]
  have hm : w % 4 < 4 := Nat.mod_lt _ (by decide)
  generalize w % 4 = r at hm
  interval_cases r
  · simp [IntOp.cmpi]
  · simp [IntOp.cmpi]
  · simp only [show 16368 * 2 = 16368 + 16368 from rfl, sum_range_add, BitVec.ofNat_add]
    simp [IntOp.cmpi]
  · simp only [show 16368 * 3 = 16368 + 16368 + 16368 from rfl, sum_range_add, BitVec.ofNat_add]
    simp [IntOp.cmpi]

/-- A rank word from the number of matches up to an anchor. -/
def rkw (p : ℕ) : BitVec 32 := IntOp.minsi 511#32 (IntOp.maxsi 0#32 (IntOp.subi (BitVec.ofNat 32 p) 1#32))

/-- The rank an anchor's number of matches gives. -/
def rk (p : ℕ) : ℕ := (rkw p).toNat

theorem rk_lt (p : ℕ) : rk p < 512 := clip_lt _

/-- The matches of its row up to and including anchor `n`. -/
def pre (I : Ins F) (n : ℕ) : ℕ := ∑ j ∈ range (n % 65472 + 1), one I (65472 * (n / 65472) + j)

/-- The rank words of group `k` of tile `w`. -/
theorem rank_mv (I : Ins F) (w k : ℕ) (hk : k < 1023) (t : Vec F S2048 .f32) (p : Vec F S65472 .f32) (x : S16.Idx) :
    k0_pay2 (base I w) (grpN (mv I w) t p (base I w) k).1 (k0_pay22 (F := F) (grp (mv I w) k)) x
      = rkw (pre I (16368 * w + (16 * k + (x 0).val))) := by
  have hx : (x 0 : ℕ) < 16 := (x 0).isLt
  have h : k0_pay2 (base I w) (grpN (mv I w) t p (base I w) k).1 (k0_pay22 (F := F) (grp (mv I w) k)) x
      = IntOp.minsi 511#32 (IntOp.maxsi 0#32 (IntOp.subi (IntOp.addi (IntOp.addi (base I w x) (grpN (mv I w) t p (base I w) k).1)
        (scan .sum (k0_pay22 (F := F) (grp (mv I w) k)) x)) 1#32)) := rfl
  rw [h, base_eq, run_mv I w t p _ k (by omega), prefix_mv I w k hk, addi_word, addi_word]
  unfold rkw pre
  refine congrArg (fun z => IntOp.minsi 511#32 (IntOp.maxsi 0#32 (IntOp.subi (BitVec.ofNat 32 z) 1#32))) ?_
  have e1 : (16368 * w + (16 * k + (x 0).val)) % 65472 + 1 = 16368 * (w % 4) + 16 * k + ((x 0).val + 1) := by omega
  have e2 : (16368 * w + (16 * k + (x 0).val)) / 65472 = w / 4 := by omega
  rw [e1, e2, sum_range_add _ (16368 * (w % 4) + 16 * k) ((x 0).val + 1), sum_range_add _ (16368 * (w % 4)) (16 * k)]
  refine congrArg₂ _ (congrArg₂ _ rfl ?_) ?_
  · exact sum_congr rfl fun n _ => congrArg _ (by omega)
  · exact sum_congr rfl fun n _ => congrArg _ (by omega)

/-- A group the second loop passes over has no matches. -/
theorem no_match (I : Ins F) (w k : ℕ) (hk : k < 1023) (hc : ¬ k0_cond1 (gcount2 (grp (mv I w) k)) = 1#1) (l : ℕ) (hl : l < 16) :
    one I (16368 * w + (16 * k + l)) = 0 := by
  rw [gcount2_mv I w k hk] at hc
  have hle : ∑ j ∈ range 16, one I (16368 * w + (16 * k + j)) ≤ 16 :=
    (sum_le_card_nsmul _ _ 1 fun j _ => bit_le _).trans (by simp)
  have hz : ∑ j ∈ range 16, one I (16368 * w + (16 * k + j)) = 0 := by
    by_contra hne
    generalize ∑ j ∈ range 16, one I (16368 * w + (16 * k + j)) = s at hc hle hne
    exact hc ((by decide : ∀ s : Fin 17, s.val ≠ 0 → k0_cond1 (BitVec.ofNat 32 s.val) = 1#1) ⟨s, by omega⟩ hne)
  exact (sum_eq_zero_iff.1 hz) l (mem_range.2 hl)

end Cert.Proof

end
-- ==== Proof.Losses.lean ====
/-
  The kernel's partial sums over the extended reals: each lane of each tile holds the sum of the losses of the anchors it
  is given, and all of them together hold the sum over every anchor.
-/
module

public import proofs.«01_k».proof.Proof.Counts
public import Idealize.ShloMosaic.Lib.IdealHost

@[expose] public section

noncomputable section

namespace Cert.Proof

open Cert.KernelIdeal Cert.KernelIdeal.Gen
open Idealize.ShloMosaic Finset

/-- The word of one half, as an extended real. -/
def half : EReal := Ideal.ofBits .f32 0x3F000000#32

/-- The absolute value. -/
def ab (z : EReal) : EReal := max z (-z)

/-- The smooth loss of a distance. -/
def sl1 (d : EReal) : EReal := if d < 1 then half * d * d else d - half

theorem bit_select {α : Type} (p : Prop) [Decidable p] (a b : α) : Scalar.select (BitVec.ofBool (decide p)) a b = if p then a else b := by
  by_cases h : p
  · rw [if_pos h, decide_eq_true h]; rfl
  · rw [if_neg h, decide_eq_false h]; rfl

theorem match_select {α : Type} (x : BitVec 32) (a b : α) : Scalar.select (IntOp.cmpi .eq x 1#32) a b = if x = 1#32 then a else b := by
  rw [← bit_select]; rfl

/-- The kernel's choice between the two pieces of the loss. -/
def lk (d : EReal) : EReal := Scalar.select (Ideal.cmp .olt d (Ideal.ofBits .f32 0x3F800000#32)) (half * d * d) (d - half)

theorem lk_eq (d : EReal) : lk d = sl1 d := by
  unfold lk; rw [Ideal.ofBits_one_f32]; exact bit_select (d < 1) _ _

/-- The loss of coordinate `d` of anchor `n`. -/
def term (I : Ins Ideal) (n d : ℕ) : EReal :=
  sl1 (ab (I.T (at1 (N := 16384) (2048 * (n / 65472) + (4 * rk (pre I n) + d))) - I.B (at1 (N := 2095104) (4 * n + d))))

/-- The loss of anchor `n`: its four distances' losses when it matches, nothing when it does not. -/
def loss (I : Ins Ideal) (n : ℕ) : EReal :=
  if I.M (at1 (N := 523776) n) = 1#32 then term I n 0 + term I n 1 + term I n 2 + term I n 3 else 0

/-- One group's step, at a lane. -/
theorem hot_lane (t : Vec Ideal S2048 .f32) (p : Vec Ideal S65472 .f32) (b : IVec S16 32) (v : Vec Ideal S16 .i32) (run k : BitVec 32)
    (a : FVec Ideal S16 .f32) (x : S16.Idx) (s : BitVec 32 → EReal)
    (hs : ∀ d : BitVec 32, d.toNat < 4 → s d = sl1 (ab (t (at1 (N := 2048) (k0_pay2 b run (k0_pay22 (F := Ideal) v) x * 4#32 + d).toNat) - p (at1 (N := 65472) (k0_pay3 lanes k x + d).toNat)))) :
    hot t p b v run k a x = a x + (if v x = 1#32 then s 0#32 + s 1#32 + s 2#32 + s 3#32 else 0) := by
  have h : hot t p b v run k a x = a x + Scalar.select (IntOp.cmpi .eq (v x) 1#32)
      ((((Ideal.ofBits .f32 0x00000000#32
        + lk (ab (t (at1 (N := 2048) (k0_pay2 b run (k0_pay22 (F := Ideal) v) x * 4#32 + 0#32).toNat) - p (at1 (N := 65472) (k0_pay3 lanes k x + 0#32).toNat))))
        + lk (ab (t (at1 (N := 2048) (k0_pay2 b run (k0_pay22 (F := Ideal) v) x * 4#32 + 1#32).toNat) - p (at1 (N := 65472) (k0_pay3 lanes k x + 1#32).toNat))))
        + lk (ab (t (at1 (N := 2048) (k0_pay2 b run (k0_pay22 (F := Ideal) v) x * 4#32 + 2#32).toNat) - p (at1 (N := 65472) (k0_pay3 lanes k x + 2#32).toNat))))
        + lk (ab (t (at1 (N := 2048) (k0_pay2 b run (k0_pay22 (F := Ideal) v) x * 4#32 + 3#32).toNat) - p (at1 (N := 65472) (k0_pay3 lanes k x + 3#32).toNat))))
      (Ideal.ofBits .f32 0x00000000#32) := rfl
  rw [h, match_select, Ideal.ofBits_zero_f32, lk_eq, lk_eq, lk_eq, lk_eq, hs _ (by decide), hs _ (by decide), hs _ (by decide), hs _ (by decide), zero_add]

/-- The words of an anchor's box. -/
theorem box_at (k : ℕ) (hk : k < 1023) (x : S16.Idx) (c : BitVec 32) (hc : c.toNat < 4) :
    (k0_pay3 lanes (Scf.iv 0#32 1#32 k) x + c).toNat = 64 * k + 4 * (x 0).val + c.toNat := by
  have hx : (x 0).val < 16 := (x 0).isLt
  have e : k0_pay3 lanes (Scf.iv 0#32 1#32 k) x = (0#32 + BitVec.ofNat 32 k * 1#32) * 64#32 + BitVec.ofNat 32 (x 0).val * 4#32 := by
    show Scf.iv 0#32 1#32 k * 64#32 + lanes x * 4#32 = _
    rw [show lanes x = BitVec.ofNat 32 (x 0).val from congrArg (BitVec.ofNat 32) (Nat.zero_add _)]
    rfl
  rw [e]
  simp only [BitVec.toNat_add, BitVec.toNat_mul, BitVec.toNat_ofNat]
  omega

/-- The running sums of a lane: over the groups so far, the losses of its anchors. -/
theorem grpN_lane (I : Ins Ideal) (w : ℕ) (hw : w < 32) (x : S16.Idx) : ∀ k, k ≤ 1023 →
    (grpN (mv I w) (tv I w) (bv I w) (base I w) k).2 x = ∑ j ∈ range k, loss I (16368 * w + (16 * j + (x 0).val))
  | 0, _ => Ideal.ofBits_zero_f32
  | k + 1, hk => by
    have hx : (x 0 : ℕ) < 16 := (x 0).isLt
    have hkk : k < 1023 := by omega
    rw [sum_range_succ, ← grpN_lane I w hw x k (by omega)]
    by_cases hc : k0_cond1 (gcount2 (grp (mv I w) k)) = 1#1
    · have hu : (grpN (mv I w) (tv I w) (bv I w) (base I w) (k + 1)).2
          = hot (tv I w) (bv I w) (base I w) (grp (mv I w) k) (grpN (mv I w) (tv I w) (bv I w) (base I w) k).1 (Scf.iv 0#32 1#32 k)
            (grpN (mv I w) (tv I w) (bv I w) (base I w) k).2 := if_pos hc
      have hr := rank_mv I w k hkk (tv I w) (bv I w) x
      have hs : ∀ d : BitVec 32, d.toNat < 4 → term I (16368 * w + (16 * k + (x 0).val)) d.toNat
          = sl1 (ab (tv I w (at1 (N := 2048) (k0_pay2 (base I w) (grpN (mv I w) (tv I w) (bv I w) (base I w) k).1 (k0_pay22 (F := Ideal) (grp (mv I w) k)) x * 4#32 + d).toNat)
            - bv I w (at1 (N := 65472) (k0_pay3 lanes (Scf.iv 0#32 1#32 k) x + d).toNat))) := by
        intro d hd
        have hl := rk_lt (pre I (16368 * w + (16 * k + (x 0).val)))
        rw [hr, rank4 _ hl d hd, box_at k hkk x d hd]
        unfold term tv bv
        rw [at1_val (by unfold rk at hl; omega), at1_val (by omega)]
        have e2 : (16368 * w + (16 * k + (x 0).val)) / 65472 = w / 4 := by omega
        have e3 : 4 * (16368 * w + (16 * k + (x 0).val)) + d.toNat = 65472 * w + (64 * k + 4 * (x 0).val + d.toNat) := by omega
        rw [e2, e3]; rfl
      rw [hu, hot_lane _ _ _ _ _ _ _ _ (fun d => term I (16368 * w + (16 * k + (x 0).val)) d.toNat) hs, grp_mv I w k hkk]
      rfl
    · have hu : (grpN (mv I w) (tv I w) (bv I w) (base I w) (k + 1)).2 = (grpN (mv I w) (tv I w) (bv I w) (base I w) k).2 := if_neg hc
      have h1 := no_match I w k hkk hc (x 0).val hx
      have h2 : loss I (16368 * w + (16 * k + (x 0).val)) = 0 := if_neg fun h => by
        unfold one bit at h1; rw [if_pos h] at h1; exact absurd h1 one_ne_zero
      rw [hu, h2, add_zero]

/-- A lane's partial sum. -/
theorem acc_lane (I : Ins Ideal) (w : ℕ) (hw : w < 32) (x : S16.Idx) :
    acc I w x = ∑ j ∈ range 1023, loss I (16368 * w + (16 * j + (x 0).val)) := grpN_lane I w hw x 1023 le_rfl

/-- The number of matches of tile `w`. -/
def hits (I : Ins Ideal) (w : ℕ) : ℕ := ∑ n ∈ range 16368, one I (16368 * w + n)

theorem hits_le (I : Ins Ideal) (w : ℕ) : hits I w ≤ 16368 :=
  (sum_le_card_nsmul _ _ 1 fun j _ => bit_le _).trans (by simp)

/-- A lane's count. -/
theorem count_lane (I : Ins Ideal) (w : ℕ) (x : S16.Idx) : k0_pay1 (F := Ideal) (cnt I w) x = ((hits I w : ℝ) : EReal) := by
  have h : k0_pay1 (F := Ideal) (cnt I w) x = Ideal.ofBits .f32 0x00000000#32 + (((cnt I w).toInt : ℝ) : EReal) := rfl
  have hm := hits_le I w
  rw [h, Ideal.ofBits_zero_f32, zero_add, cnt_eq]
  have e : (BitVec.ofNat 32 (hits I w)).toInt = (hits I w : ℤ) := by
    rw [BitVec.toInt_eq_toNat_cond, BitVec.toNat_ofNat, Nat.mod_eq_of_lt (by omega)]
    rw [if_pos (by omega)]
  show (((BitVec.ofNat 32 (hits I w)).toInt : ℝ) : EReal) = _
  rw [e]; rfl

/-! ## All tiles together -/

/-- A sum over `a * b` numbers, cut into `a` runs of `b`. -/
theorem sum_mul {A : Type} [AddCommMonoid A] (f : ℕ → A) (b : ℕ) : ∀ a, ∑ n ∈ range (a * b), f n = ∑ i ∈ range a, ∑ j ∈ range b, f (b * i + j)
  | 0 => by simp
  | a + 1 => by rw [Nat.succ_mul, sum_range_add, sum_mul f b a, sum_range_succ, Nat.mul_comm a b]

/-- The lanes of all tiles hold the sum over every anchor. -/
theorem sum_lanes (f : ℕ → EReal) :
    ∑ w ∈ range 32, ∑ l ∈ range 16, ∑ j ∈ range 1023, f (16368 * w + (16 * j + l)) = ∑ n ∈ range 523776, f n := by
  rw [show (523776 : ℕ) = 32 * 16368 from rfl, sum_mul f 16368 32]
  refine sum_congr rfl fun w _ => ?_
  rw [sum_comm, show (16368 : ℕ) = 1023 * 16 from rfl, sum_mul (fun n => f (1023 * 16 * w + n)) 16 1023]

end Cert.Proof

end
-- ==== Proof.Total.lean ====
/-
  The kernel's result over the extended reals: the sum of all losses over four times the number of matches, and zero when
  nothing matches.
-/
module

public import proofs.«01_k».proof.Proof.Losses

@[expose] public section

noncomputable section

namespace Cert.Proof

open Cert.KernelIdeal Cert.KernelIdeal.Gen
open Idealize.ShloMosaic Idealize.ShloMosaic.ValueIdx Finset

/-- The sum of the losses of all anchors. -/
def lossSum (I : Ins Ideal) : EReal := ∑ n ∈ range 523776, loss I n

/-- The number of matching anchors. -/
def hitSum (I : Ins Ideal) : ℕ := ∑ n ∈ range 523776, one I n

/-- The loss: the sum over the four times counted matches, zero without matches. -/
def answer (I : Ins Ideal) : EReal :=
  Scalar.select (Ideal.cmp .ogt (((hitSum I : ℝ) : EReal) * ((4 : ℝ) : EReal)) 0)
    (Ideal.div (lossSum I) (((hitSum I : ℝ) : EReal) * ((4 : ℝ) : EReal))) 0

theorem coe_sum' {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem quarter_eq : Ideal.ofBits .f32 0x3E800000#32 = ((1 / 4 : ℝ) : EReal) := by
  simp [Ideal.ofBits, Ideal.ieee, -EReal.coe_mul]; norm_num

/-- A total over a shape recast is the total over the shape. -/
theorem sum_cast {s t : Shape} (h : s.ShapeCasts t) (f : s.Idx → EReal) : ∑ i : t.Idx, shapeCast t f h i = ∑ i : s.Idx, f i :=
  Equiv.sum_comp (Shape.reshapeEquiv h) f

/-- The finishing body's sum of thirty-two rows of the partial results. -/
theorem rows_sum (v : FVec Ideal S64x16 .f32) (off : Fin 2 → ℕ) (hs : S64x16.Slices off S32x16) (r : ℕ) (hr : r ≤ 32) (h0 : off 0 = r) (h1 : off 1 = 0) (i : S1x1x1.Idx) :
    shapeCast S1x1x1 (multiReduction .add [1, 2] S1 (shapeCast S1x32x16 (extractStridedSlice S32x16 off (shapeCast S64x16 v shapeCasts_S64x16_S64x16) hs)
      shapeCasts_S32x16_S1x32x16) 0x00000000#32 reduces_S1x32x16_S1 (.inl rfl) rfl) shapeCasts_S1_S1x1x1 i
      = ∑ w : Fin 32, ∑ l : Fin 16, v (ix2 ⟨r + w.val, by omega⟩ l) := by
  refine (Ideal.multiReduction_add_total _ _ _ (fun b => ?_) _ _ _).trans ?_
  · have : b = (0 : Fin 1) := Subsingleton.elim _ _
    subst this; rfl
  rw [sum_cast, sum_idx2]
  refine sum_congr rfl fun w _ => sum_congr rfl fun l _ => ?_
  have e : shapeCast S64x16 v shapeCasts_S64x16_S64x16 = v := by
    funext j; unfold shapeCast; rw [Shape.reshapeEquiv_self]
  rw [e]
  refine congrArg v (funext fun a => ?_)
  match a with
  | ⟨0, _⟩ => exact Fin.ext (congrArg (· + w.val) h0)
  | ⟨1, _⟩ => exact Fin.ext ((congrArg (· + l.val) h1).trans (Nat.zero_add _))

set_option maxRecDepth 16384 in
/-- The finishing body, its two sums named. -/
theorem finish_eq (v : FVec Ideal S64x16 .f32) (x : S1x1.Idx) (p q : EReal)
    (hp : p = (shapeCast S1x1x1 (multiReduction .add [1, 2] S1 (shapeCast S1x32x16 (extractStridedSlice S32x16 ![0, 0] (shapeCast S64x16 v shapeCasts_S64x16_S64x16) slices_S64x16_o0_0_S32x16)
        shapeCasts_S32x16_S1x32x16) 0x00000000#32 reduces_S1x32x16_S1 (.inl rfl) rfl) shapeCasts_S1_S1x1x1 fun a => ⟨(![0, 0, 0] : Fin 3 → ℕ) a, inpos_S1x1x1_p0_0_0 a⟩))
    (hq : q = (shapeCast S1x1x1 (multiReduction .add [1, 2] S1 (shapeCast S1x32x16 (extractStridedSlice S32x16 ![32, 0] (shapeCast S64x16 v shapeCasts_S64x16_S64x16) slices_S64x16_o32_0_S32x16)
        shapeCasts_S32x16_S1x32x16) 0x00000000#32 reduces_S1x32x16_S1 (.inl rfl) rfl) shapeCasts_S1_S1x1x1 fun a => ⟨(![0, 0, 0] : Fin 3 → ℕ) a, inpos_S1x1x1_p0_0_0 a⟩)) :
    k1_pay1 (F := Ideal) v x = Scalar.select (Ideal.cmp .ogt (q * Ideal.ofBits .f32 0x3E800000#32) (Ideal.ofBits .f32 0x00000000#32))
      (Ideal.div p (q * Ideal.ofBits .f32 0x3E800000#32)) (Ideal.ofBits .f32 0x00000000#32) := by
  subst hp; subst hq; rfl

/-- What the finishing call leaves. -/
theorem result_eq (I : Ins Ideal) (x : S1x1.Idx) : k1_pay1 (F := Ideal) (outv I) x = answer I := by
  have hS : ∑ w : Fin 32, ∑ l : Fin 16, outv I (ix2 ⟨0 + w.val, by omega⟩ l) = lossSum I := by
    unfold lossSum
    rw [← sum_lanes, ← Fin.sum_univ_eq_sum_range (fun w => ∑ l ∈ range 16, ∑ j ∈ range 1023, loss I (16368 * w + (16 * j + l)))]
    refine sum_congr rfl fun w _ => ?_
    rw [← Fin.sum_univ_eq_sum_range (fun l => ∑ j ∈ range 1023, loss I (16368 * w.val + (16 * j + l)))]
    refine sum_congr rfl fun l _ => ?_
    have h1 : outv I (ix2 ⟨0 + w.val, by omega⟩ l) = acc I (0 + w.val) (at1 (N := 16) l.val) := if_pos (show 0 + w.val < 32 by omega)
    rw [h1, Nat.zero_add, acc_lane I w.val w.isLt, at1_val l.isLt]
  have hC : (∑ w : Fin 32, ∑ l : Fin 16, outv I (ix2 ⟨32 + w.val, by omega⟩ l)) * Ideal.ofBits .f32 0x3E800000#32
      = ((hitSum I : ℝ) : EReal) * ((4 : ℝ) : EReal) := by
    have h1 : ∀ (w : Fin 32) (l : Fin 16), outv I (ix2 ⟨32 + w.val, by omega⟩ l) = ((hits I w.val : ℝ) : EReal) := fun w l => by
      have h2 : outv I (ix2 ⟨32 + w.val, by omega⟩ l) = k0_pay1 (F := Ideal) (cnt I (32 + w.val - 32)) (at1 (N := 16) l.val) := if_neg (show ¬ 32 + w.val < 32 by omega)
      rw [h2, count_lane, Nat.add_sub_cancel_left]
    have h3 : hitSum I = ∑ w : Fin 32, hits I w.val := by
      unfold hitSum
      rw [show (523776 : ℕ) = 32 * 16368 from rfl, sum_mul (one I) 16368 32, Fin.sum_univ_eq_sum_range (hits I)]; rfl
    simp only [h1, coe_sum']
    rw [quarter_eq, ← EReal.coe_mul, ← EReal.coe_mul, h3]
    refine congrArg (fun r : ℝ => (r : EReal)) ?_
    simp only [sum_const, card_univ, Fintype.card_fin, nsmul_eq_mul]
    rw [← mul_sum]; push_cast; ring
  rw [finish_eq (outv I) x _ _ (rows_sum _ _ _ 0 (by omega) rfl rfl _).symm (rows_sum _ _ _ 32 (by omega) rfl rfl _).symm, hS, hC, Ideal.ofBits_zero_f32]
  rfl

end Cert.Proof

end
-- ==== Proof.RefValue.lean ====
/-
  The reference's result over the extended reals, read element by element: the mask, the rank of an anchor, the target
  box it is matched with, the distance and its smooth loss, and the two sums.
-/
module

public import proofs.«01_k».proof.Proof.Total
public import proofs.«01_k».proof.Proof.Gen.ReferenceIdeal.Run
public import Idealize.ShloMosaic.Lib.Pointwise.Index

@[expose] public section

noncomputable section

namespace Cert.Proof.Ref

open Cert.ReferenceIdeal Cert.ReferenceIdeal.Gen
open Idealize.ShloMosaic Idealize.ShloMosaic.TcCoe Finset

/-! ## The reference's values, named -/

variable (A0 : FVec Ideal S8x512x4 .f32) (A1 : IVec S8x65472x1 32) (A2 : FVec Ideal S8x65472x4 .f32)

/-- Where an anchor matches. -/
def mask : IVec S8x65472 1 :=
  cmpi .eq (shapeCast _ A1 shapeCasts_S8x65472x1_S8x65472) (broadcastInDim S8x65472 ![] bcast_S_S8x65472 (constantI S_ 32 1#32))

/-- The running count of matches along each row. -/
def run : IVec S8x65472 32 :=
  Host.reduceWindow IntOp.addi ![1, 65472] ![1, 1] ![0, 65471] ![0, 0] (extui 32 (mask A1) natLt_1_32)
    (broadcastInDim S_ ![] bcast_S_S_ (constantI S_ 32 0#32)) reduceWindows_S8x65472_S8x65472_w1s1p0_0_w65472s1p65471_0 h_S_

/-- The clipped rank of an anchor. -/
def rank : IVec S8x65472 32 :=
  minsi (broadcastInDim S8x65472 ![] bcast_S_S8x65472 (id (constantI S_ 32 511#32)))
    (maxsi (broadcastInDim S8x65472 ![] bcast_S_S8x65472 (id (constantI S_ 32 0#32)))
      (subi (run A1) (broadcastInDim S8x65472 ![] bcast_S_S8x65472 (constantI S_ 32 1#32))))

/-- The rank at each of the four coordinates. -/
def rank4 : IVec S8x65472x4 32 :=
  broadcastInDim S8x65472x4 ![0, 1, 2] bcast_S8x65472x1_S8x65472x4_0_1_2 (broadcastInDim S8x65472x1 ![0, 1] bcast_S8x65472_S8x65472x1_0_1 (rank A1))

/-- The rank, a negative one counted from the end. -/
def wrapped : IVec S8x65472x4 32 :=
  select (cmpi .slt (rank4 A1) (broadcastInDim S8x65472x4 ![] bcast_S_S8x65472x4 (constantI S_ 32 0#32)))
    (addi (rank4 A1) (broadcastInDim S8x65472x4 ![] bcast_S_S8x65472x4 (constantI S_ 32 512#32))) (rank4 A1)

/-- The start indices of the gather. -/
def idx : IVec S8x65472x4x1 32 := shapeCast _ (wrapped A1) shapeCasts_S8x65472x4_S8x65472x4x1

/-- Whether each start index is in range. -/
def inside : IVec S8x65472x4x1 1 :=
  andi (cmpi .sge (idx A1) (broadcastInDim S8x65472x4x1 ![] bcast_S_S8x65472x4x1 (constantI S_ 32 0#32)))
    (cmpi .sle (idx A1) (broadcastInDim S8x65472x4x1 ![0, 1, 2, 3] bcast_S1x1x1x1_S8x65472x4x1_0_1_2_3 (broadcastInDim S1x1x1x1 ![3] bcast_S1_S1x1x1x1_3 (constantI S1 32 511#32))))

/-- The box each anchor is compared with. -/
def target : FVec Ideal S8x65472x4 .f32 :=
  select (Host.reduce IntOp.andi (inside A1) (constantI S_ 1 1#1) reducesTo_S8x65472x4x1_S8x65472x4_d3 h_S_)
    (Host.gather gather_S8x512x4_S8x65472x4x1_S8x65472x4_n_1_02_02_1_3_111 A0 (idx A1))
    (broadcastInDim S8x65472x4 ![] bcast_S_S8x65472x4 (constant S_ .f32 0x7FC00000#32))

/-- The distances. -/
def dist : FVec Ideal S8x65472x4 .f32 := Host.absf (subf (target A0 A1) A2)

/-- The number one in every place. -/
def ones : FVec Ideal S8x65472x4 .f32 := broadcastInDim S8x65472x4 ![] bcast_S_S8x65472x4 (constant S_ .f32 0x3F800000#32)
/-- One half in every place. -/
def halves : FVec Ideal S8x65472x4 .f32 := broadcastInDim S8x65472x4 ![] bcast_S_S8x65472x4 (constant S_ .f32 0x3F000000#32)

/-- The losses, nothing where an anchor does not match. -/
def losses : FVec Ideal S8x65472x4 .f32 :=
  mulf (addf (mulf (mulf (uitofp .f32 (cmpf .olt (dist A0 A1 A2) ones)) halves) (mulf (dist A0 A1 A2) (dist A0 A1 A2)))
      (mulf (subf ones (uitofp .f32 (cmpf .olt (dist A0 A1 A2) ones))) (subf (dist A0 A1 A2) halves)))
    (broadcastInDim S8x65472x4 ![0, 1, 2] bcast_S8x65472x1_S8x65472x4_0_1_2 (broadcastInDim S8x65472x1 ![0, 1] bcast_S8x65472_S8x65472x1_0_1 (uitofp .f32 (mask A1))))

/-- Four times the number of matches. -/
def count : FVec Ideal S_ .f32 :=
  mulf (Host.reduceAdd (uitofp .f32 (mask A1)) (constant S_ .f32 0x00000000#32) reducesTo_S8x65472_S_d0_1 h_S_) (constant S_ .f32 0x40800000#32)

/-- The sum of the losses. -/
def total : FVec Ideal S_ .f32 :=
  Host.reduceAdd (losses A0 A1 A2) (constant S_ .f32 0x00000000#32) reducesTo_S8x65472x4_S_d0_1_2 h_S_

/-- The loss. -/
def out : FVec Ideal S_ .f32 :=
  select (cmpf .ogt (count A1) (constant S_ .f32 0x00000000#32)) (Host.divf (total A0 A1 A2) (count A1)) (constant S_ .f32 0x00000000#32)

set_option maxRecDepth 16384 in
/-- The reference's result is the loss so named. -/
theorem res_eq (m : (ℓ : Loc nD τ sig) → Buf (Elt Ideal) ℓ) (c : Dev nD) :
    Value.res_main_v35 m c = out (m ((c.tc : Thread nD τ).loc main_arg0)) (m ((c.tc : Thread nD τ).loc main_arg1)) (m ((c.tc : Thread nD τ).loc main_arg2)) := by
  unfold Value.res_main_v35
  rfl

/-! ## Element by element -/

/-- A running sum along each row of words of numbers is the word of the sum up to there. -/
theorem cumsum_row {R N K : ℕ} (hN : K + 1 = N) (x : IVec ⟨2, ![R, N]⟩ 32) (b : Fin R) (f : ℕ → ℕ)
    (hx : ∀ i : Fin N, x (ix2 b i) = BitVec.ofNat 32 (f i.val)) (init : IVec ⟨0, ![]⟩ 32) (hi : ∀ z, init z = 0#32)
    (h : (⟨2, ![R, N]⟩ : Shape).ReduceWindows (![1, N] : Fin 2 → ℕ) ![1, 1] ![0, K] ![0, 0] ⟨2, ![R, N]⟩) (hu : 0 < (⟨0, ![]⟩ : Shape).numel) (j : Fin N) :
    Host.reduceWindow IntOp.addi ![1, N] ![1, 1] ![0, K] ![0, 0] x init h hu (ix2 b j) = BitVec.ofNat 32 (∑ i ∈ range (j.val + 1), f i) := by
  subst hN
  have hj := j.isLt
  have h0 : init (Shape.Idx.first hu) = BitVec.ofNat 32 0 := hi _
  unfold Host.reduceWindow
  refine (Routing.foldl_addi_ofNat _ _ (fun n => if K ≤ j.val + n.val then f (j.val + n.val - K) else 0) (fun n _ => ?_) _ 0 h0).trans ?_
  · have e0 : ((⟨2, ![1, K + 1]⟩ : Shape).rowMajor.symm n 0).val = 0 := by
      have := ((⟨2, ![1, K + 1]⟩ : Shape).rowMajor.symm n 0).isLt
      change _ < 1 at this; omega
    have e1 : ((⟨2, ![1, K + 1]⟩ : Shape).rowMajor.symm n 1).val = n.val := by
      have h2 := Shape.rowMajor_val_two ((⟨2, ![1, K + 1]⟩ : Shape).rowMajor.symm n)
      rw [Equiv.apply_symm_apply, e0, Nat.zero_mul, Nat.zero_add] at h2
      exact h2.symm
    have hn : n.val < K + 1 := by
      rw [← e1]; exact ((⟨2, ![1, K + 1]⟩ : Shape).rowMajor.symm n 1).isLt
    dsimp only
    by_cases hk : K ≤ j.val + n.val
    · rw [if_pos hk]
      have hin : ∀ a : Fin 2, (![0, K] : Fin 2 → ℕ) a ≤ (ix2 b j a).val * (![1, 1] : Fin 2 → ℕ) a + ((⟨2, ![1, K + 1]⟩ : Shape).rowMajor.symm n a).val
          ∧ (ix2 b j a).val * (![1, 1] : Fin 2 → ℕ) a + ((⟨2, ![1, K + 1]⟩ : Shape).rowMajor.symm n a).val - (![0, K] : Fin 2 → ℕ) a < (⟨2, ![R, K + 1]⟩ : Shape).size a := by
        intro a
        match a with
        | ⟨0, _⟩ =>
          show 0 ≤ b.val * 1 + ((⟨2, ![1, K + 1]⟩ : Shape).rowMajor.symm n 0).val ∧ b.val * 1 + ((⟨2, ![1, K + 1]⟩ : Shape).rowMajor.symm n 0).val - 0 < R
          rw [e0]; have := b.isLt; omega
        | ⟨1, _⟩ =>
          show K ≤ j.val * 1 + ((⟨2, ![1, K + 1]⟩ : Shape).rowMajor.symm n 1).val ∧ j.val * 1 + ((⟨2, ![1, K + 1]⟩ : Shape).rowMajor.symm n 1).val - K < K + 1
          rw [e1]; omega
      refine (dif_pos hin).trans ((congrArg x (funext fun a => Fin.ext ?_)).trans (hx ⟨j.val + n.val - K, by omega⟩))
      match a with
      | ⟨0, _⟩ =>
        show b.val * 1 + ((⟨2, ![1, K + 1]⟩ : Shape).rowMajor.symm n 0).val - 0 = b.val
        rw [e0]; omega
      | ⟨1, _⟩ =>
        show j.val * 1 + ((⟨2, ![1, K + 1]⟩ : Shape).rowMajor.symm n 1).val - K = j.val + n.val - K
        rw [e1]; omega
    · rw [if_neg hk]
      refine (dif_neg fun hin => hk ?_).trans h0
      have h1 := (hin 1).1
      change K ≤ j.val * 1 + ((⟨2, ![1, K + 1]⟩ : Shape).rowMajor.symm n 1).val at h1
      rw [e1] at h1; omega
  · have hl : (⟨2, ![1, K + 1]⟩ : Shape).numel = K + 1 := Routing.numel2 (K + 1)
    rw [Nat.zero_add, Routing.map_finRange_val _ (fun n => if K ≤ j.val + n then f (j.val + n - K) else 0)]
    refine congrArg (BitVec.ofNat 32) ((congrArg (fun M => ((List.range M).map fun n => if K ≤ j.val + n then f (j.val + n - K) else 0).sum) hl).trans ?_)
    exact Routing.sum_window f K j.val (by omega)

/-- Whether anchor `a` of row `b` matches, as the reference's bit. -/
theorem mask_at (b : Fin 8) (a : Fin 65472) : mask A1 (ix2 b a) = IntOp.cmpi .eq (A1 (ix3 b a 0)) 1#32 := by
  have h : shapeCast S8x65472 A1 shapeCasts_S8x65472x1_S8x65472 (ix2 b a) = A1 (ix3 b a 0) := by
    refine congrArg A1 (Shape.reshapeEquiv_eq_of_rowMajor _ ?_)
    rw [Shape.rowMajor_val_three, Shape.rowMajor_val_two]
    show (b.val * 65472 + a.val) * 1 + 0 = b.val * 65472 + a.val
    omega
  exact congrArg (fun z => IntOp.cmpi .eq z 1#32) h

theorem rank_def (x : S8x65472.Idx) : rank A1 x = IntOp.minsi 511#32 (IntOp.maxsi 0#32 (IntOp.subi (run A1 x) 1#32)) := rfl

/-- The rank of anchor `a` of row `b`. -/
theorem rank_at (b : Fin 8) (a : Fin 65472) (f : ℕ → ℕ) (hf : ∀ i : Fin 65472, bit (A1 (ix3 b i 0)) = f i.val) :
    rank A1 (ix2 b a) = rkw (∑ i ∈ range (a.val + 1), f i) := by
  have h : run A1 (ix2 b a) = BitVec.ofNat 32 (∑ i ∈ range (a.val + 1), f i) :=
    cumsum_row (R := 8) (N := 65472) (K := 65471) rfl _ b f (fun i => by
      rw [← hf, ← wide_eq, ← mask_at]; rfl) _ (fun _ => rfl) _ _ a
  rw [rank_def, h, rkw]

/-- A value of each anchor, repeated at its four coordinates. -/
theorem four_at {α : Type} (x : S8x65472.Idx → α) (b : Fin 8) (a : Fin 65472) (d : Fin 4) :
    broadcastInDim S8x65472x4 ![0, 1, 2] bcast_S8x65472x1_S8x65472x4_0_1_2 (broadcastInDim S8x65472x1 ![0, 1] bcast_S8x65472_S8x65472x1_0_1 x) (ix3 b a d)
      = x (ix2 b a) := by
  refine congrArg x (funext fun e => ?_)
  match e with
  | ⟨0, _⟩ => rfl
  | ⟨1, _⟩ => rfl

theorem rank4_at (b : Fin 8) (a : Fin 65472) (d : Fin 4) : rank4 A1 (ix3 b a d) = rank A1 (ix2 b a) := four_at (rank A1) b a d

theorem rank_lt (x : S8x65472.Idx) : (rank A1 x).toNat < 512 := by rw [rank_def]; exact clip_lt _

/-- A small word read signed is itself. -/
theorem toInt_small (r : BitVec 32) (hr : r.toNat < 512) : r.toInt = (r.toNat : ℤ) := by
  rw [BitVec.toInt_eq_toNat_cond, if_pos (by omega)]

theorem slt_zero (r : BitVec 32) (hr : r.toNat < 512) : IntOp.cmpi .slt r 0#32 = 0#1 := by
  have h : r.slt 0#32 = false := by
    simp only [BitVec.slt, decide_eq_false_iff_not, toInt_small r hr]; simp
  show BitVec.ofBool (r.slt 0#32) = 0#1
  rw [h]; rfl

theorem in_range (r : BitVec 32) (hr : r.toNat < 512) : IntOp.andi (IntOp.cmpi .sge r 0#32) (IntOp.cmpi .sle r 511#32) = 1#1 := by
  have h : (0#32 : BitVec 32).sle r = true := by
    simp only [BitVec.sle, decide_eq_true_eq, toInt_small r hr]; simp
  have h' : r.sle 511#32 = true := by
    simp only [BitVec.sle, decide_eq_true_eq, toInt_small r hr]
    rw [show (511#32 : BitVec 32).toInt = 511 from rfl]; omega
  show BitVec.ofBool ((0#32 : BitVec 32).sle r) &&& BitVec.ofBool (r.sle 511#32) = 1#1
  rw [h, h']; rfl

theorem wrapped_at (b : Fin 8) (a : Fin 65472) (d : Fin 4) : wrapped A1 (ix3 b a d) = rank A1 (ix2 b a) := by
  have e : ∀ x, wrapped A1 x = Scalar.select (IntOp.cmpi .slt (rank4 A1 x) 0#32) (IntOp.addi (rank4 A1 x) 512#32) (rank4 A1 x) := fun _ => rfl
  rw [e, rank4_at, slt_zero _ (rank_lt A1 _), ValueIdx.select_zero]

theorem cast4 {α : Type} (x : S8x65472x4.Idx → α) (b : Fin 8) (a : Fin 65472) (d : Fin 4) (o : Fin 1) :
    shapeCast S8x65472x4x1 x shapeCasts_S8x65472x4_S8x65472x4x1 (ix4 b a d o) = x (ix3 b a d) := by
  refine congrArg x (Shape.reshapeEquiv_eq_of_rowMajor _ ?_)
  rw [Shape.rowMajor_val_three, Shape.rowMajor_val_four]
  show (b.val * 65472 + a.val) * 4 + d.val = ((b.val * 65472 + a.val) * 4 + d.val) * 1 + o.val
  have := o.isLt; omega

/-- The start index of anchor `a`, row `b`, coordinate `d`. -/
theorem idx_at (b : Fin 8) (a : Fin 65472) (d : Fin 4) (o : Fin 1) : idx A1 (ix4 b a d o) = rank A1 (ix2 b a) := by
  exact (cast4 (wrapped A1) b a d o).trans (wrapped_at A1 b a d)

theorem idx_lt (x : S8x65472x4x1.Idx) : (idx A1 x).toNat < 512 := by
  obtain ⟨b, a, d, o, rfl⟩ : ∃ (b : Fin 8) (a : Fin 65472) (d : Fin 4) (o : Fin 1), x = ix4 b a d o := ⟨x 0, x 1, x 2, x 3, eq_ix4 x⟩
  rw [idx_at]; exact rank_lt A1 _

theorem inside_at (x : S8x65472x4x1.Idx) : inside A1 x = 1#1 := in_range _ (idx_lt A1 x)

/-- Folding the conjunction over ones from one gives one. -/
theorem fold_ones {ι : Type} (l : List ι) (g : ι → BitVec 1) (hg : ∀ a, g a = 1#1) : l.foldl (fun r a => IntOp.andi r (g a)) 1#1 = 1#1 := by
  induction l with
  | nil => rfl
  | cons a l ih => rw [List.foldl_cons, hg]; exact ih

theorem all_inside (x : S8x65472x4.Idx) :
    Host.reduce IntOp.andi (inside A1) (constantI S_ 1 1#1) reducesTo_S8x65472x4x1_S8x65472x4_d3 h_S_ x = 1#1 :=
  fold_ones _ (fun n => inside A1 (S8x65472x4x1.rowMajor.symm n)) fun _ => inside_at A1 _

/-- The gather's dimension numbers. -/
abbrev gd := gather_S8x512x4_S8x65472x4x1_S8x65472x4_n_1_02_02_1_3_111

/-- The gather reads, in row `b`, the box that the start index names. -/
theorem gather_start (J : IVec S8x65472x4x1 32) (b : Fin 8) (a : Fin 65472) (d : Fin 4) (r : Fin 512) (hr : (J (ix4 b a d 0)).toInt.toNat = r.val) :
    Host.gather gd A0 J (ix3 b a d) = A0 (ix3 b r d) := by
  have hs : ∀ j : S8x65472x4.Idx, j = ix3 b a d → gd.siIdx j ⟨0, Nat.one_pos⟩ = ix4 b a d 0 := by
    intro j hj
    subst hj
    funext e
    match e with
    | ⟨0, _⟩ => rfl
    | ⟨1, _⟩ => rfl
    | ⟨2, _⟩ => rfl
    | ⟨3, _⟩ => rfl
  refine congrArg A0 (funext fun e => Fin.ext ?_)
  match e with
  | ⟨0, _⟩ =>
    show gd.start (ix3 b a d) J 0 + gd.batchCoord (ix3 b a d) 0 + gd.offCoord (ix3 b a d) 0 = b.val
    rw [gd.start_batching _ _ _ (by decide), gd.offCoord_eq_zero _ _ (by decide)]
    show 0 + b.val + 0 = b.val
    omega
  | ⟨1, _⟩ =>
    show gd.start (ix3 b a d) J 1 + gd.batchCoord (ix3 b a d) 1 + gd.offCoord (ix3 b a d) 1 = r.val
    rw [gd.batchCoord_eq_zero _ _ (by decide), gd.offCoord_eq_zero _ _ (by decide)]
    have h : gd.start (ix3 b a d) J 1 = min (J (gd.siIdx (ix3 b a d) ⟨0, Nat.one_pos⟩)).toInt.toNat 511 := rfl
    rw [h, hs _ rfl, hr]
    have := r.isLt
    omega
  | ⟨2, _⟩ =>
    show gd.start (ix3 b a d) J 2 + gd.batchCoord (ix3 b a d) 2 + gd.offCoord (ix3 b a d) 2 = d.val
    rw [gd.start_batching _ _ _ (by decide), gd.offCoord_eq_zero _ _ (by decide)]
    show 0 + d.val + 0 = d.val
    omega

/-- The gather reads, in row `b`, the box of the rank. -/
theorem gather_at (b : Fin 8) (a : Fin 65472) (d : Fin 4) (r : Fin 512) (hr : (rank A1 (ix2 b a)).toNat = r.val) :
    Host.gather gather_S8x512x4_S8x65472x4x1_S8x65472x4_n_1_02_02_1_3_111 A0 (idx A1) (ix3 b a d) = A0 (ix3 b r d) :=
  gather_start A0 (idx A1) b a d r (by rw [idx_at, toInt_small _ (rank_lt A1 _), Int.toNat_natCast, hr])

/-- The box an anchor is compared with is the one its rank names. -/
theorem target_at (b : Fin 8) (a : Fin 65472) (d : Fin 4) (r : Fin 512) (hr : (rank A1 (ix2 b a)).toNat = r.val) :
    target A0 A1 (ix3 b a d) = A0 (ix3 b r d) := by
  have e : ∀ x, target A0 A1 x = Scalar.select (Host.reduce IntOp.andi (inside A1) (constantI S_ 1 1#1) reducesTo_S8x65472x4x1_S8x65472x4_d3 h_S_ x)
      (Host.gather gather_S8x512x4_S8x65472x4x1_S8x65472x4_n_1_02_02_1_3_111 A0 (idx A1) x) (Ideal.ofBits .f32 0x7FC00000#32) := fun _ => rfl
  rw [e, all_inside, ValueIdx.select_one, gather_at A0 A1 b a d r hr]

/-- A bit, as an extended real. -/
def bitR (c : BitVec 1) : EReal := ((c.toNat : ℝ) : EReal)

theorem bitR_of (p : Prop) [Decidable p] : bitR (BitVec.ofBool (decide p)) = if p then 1 else 0 := by
  unfold bitR
  by_cases h : p
  · rw [if_pos h, decide_eq_true h]; simp
  · rw [if_neg h, decide_eq_false h]; simp

/-- The reference's smooth loss: both pieces, each weighted by whether it applies. -/
theorem blend (z : EReal) :
    bitR (Ideal.cmp .olt z (Ideal.ofBits .f32 0x3F800000#32)) * half * (z * z)
      + (Ideal.ofBits .f32 0x3F800000#32 - bitR (Ideal.cmp .olt z (Ideal.ofBits .f32 0x3F800000#32))) * (z - half) = sl1 z := by
  rw [Ideal.ofBits_one_f32]
  have h : bitR (Ideal.cmp .olt z 1) = if z < 1 then 1 else 0 := bitR_of (z < 1)
  rw [h]
  unfold sl1
  by_cases hz : z < 1
  · rw [if_pos hz, if_pos hz]
    have e : (1 : EReal) - 1 = 0 := by
      rw [← EReal.coe_one, ← EReal.coe_sub, sub_self, EReal.coe_zero]
    rw [e, zero_mul, add_zero, one_mul, mul_assoc]
  · rw [if_neg hz, if_neg hz, zero_mul, zero_mul, zero_add, sub_zero, one_mul]

theorem ones_at (x : S8x65472x4.Idx) : ones x = Ideal.ofBits .f32 0x3F800000#32 := rfl
theorem halves_at (x : S8x65472x4.Idx) : halves x = half := rfl

theorem blend_vec (D W : FVec Ideal S8x65472x4 .f32) (x : S8x65472x4.Idx) :
    mulf (addf (mulf (mulf (uitofp .f32 (cmpf .olt D ones)) halves) (mulf D D))
      (mulf (subf ones (uitofp .f32 (cmpf .olt D ones))) (subf D halves))) W x = sl1 (D x) * W x := by
  rw [← blend, ← ones_at x, ← halves_at x]; rfl

theorem dist_vec (X Y : FVec Ideal S8x65472x4 .f32) (x : S8x65472x4.Idx) : Host.absf (subf X Y) x = ab (X x - Y x) := rfl

/-- The loss of coordinate `d` of anchor `a` of row `b`. -/
theorem losses_at (b : Fin 8) (a : Fin 65472) (d : Fin 4) (r : Fin 512) (hr : (rank A1 (ix2 b a)).toNat = r.val) :
    losses A0 A1 A2 (ix3 b a d) = sl1 (ab (A0 (ix3 b r d) - A2 (ix3 b a d))) * (if A1 (ix3 b a 0) = 1#32 then 1 else 0) := by
  have w : (uitofp .f32 (mask A1) : FVec Ideal S8x65472 .f32) (ix2 b a) = if A1 (ix3 b a 0) = 1#32 then 1 else 0 :=
    (congrArg bitR (mask_at A1 b a)).trans (bitR_of (A1 (ix3 b a 0) = 1#32))
  unfold losses
  rw [blend_vec, four_at, w]
  unfold dist
  rw [dist_vec, target_at A0 A1 b a d r hr]

theorem four_eq : Ideal.ofBits .f32 0x40800000#32 = ((4 : ℝ) : EReal) := by
  simp [Ideal.ofBits, Ideal.ieee, -EReal.coe_mul]; norm_num

end Cert.Proof.Ref

end
-- ==== Proof.Equation.lean ====
/-
  The kernel and the reference compute the same loss over the extended reals.
-/
module

public import proofs.«01_k».proof.Proof.RefValue
public import proofs.«01_k».proof.Proof.Run

@[expose] public section

noncomputable section

namespace Cert.Proof

open Idealize.ShloMosaic Idealize.ShloMosaic.TcCoe Finset

/-- The guarded quotient of two values, at an index. -/
theorem quotient_at (t k : FVec Ideal Cert.ReferenceIdeal.S_ .f32) (x : Cert.ReferenceIdeal.S_.Idx) :
    select (cmpf .ogt k (constant Cert.ReferenceIdeal.S_ .f32 0x00000000#32)) (Host.divf t k) (constant Cert.ReferenceIdeal.S_ .f32 0x00000000#32) x
      = Scalar.select (Ideal.cmp .ogt (k x) (Ideal.ofBits .f32 0x00000000#32)) (Ideal.div (t x) (k x)) (Ideal.ofBits .f32 0x00000000#32) := rfl

/-- The scaled sum of the weights of all anchors. -/
theorem count_at (w : FVec Ideal Cert.ReferenceIdeal.S8x65472 .f32) (x : Cert.ReferenceIdeal.S_.Idx) :
    mulf (Host.reduceAdd w (constant Cert.ReferenceIdeal.S_ .f32 0x00000000#32) Cert.ReferenceIdeal.Gen.reducesTo_S8x65472_S_d0_1 Cert.ReferenceIdeal.Gen.h_S_)
      (constant Cert.ReferenceIdeal.S_ .f32 0x40800000#32) x
      = (∑ b : Fin 8, ∑ a : Fin 65472, w (ix2 b a)) * ((4 : ℝ) : EReal) := by
  have e : mulf (Host.reduceAdd w (constant Cert.ReferenceIdeal.S_ .f32 0x00000000#32) Cert.ReferenceIdeal.Gen.reducesTo_S8x65472_S_d0_1 Cert.ReferenceIdeal.Gen.h_S_)
      (constant Cert.ReferenceIdeal.S_ .f32 0x40800000#32) x
      = Ideal.hostReduceAdd Cert.ReferenceIdeal.Gen.reducesTo_S8x65472_S_d0_1 w (Ideal.ofBits .f32 0x00000000#32) x * Ideal.ofBits .f32 0x40800000#32 := rfl
  rw [e, Ideal.hostReduceAdd_total _ (fun b => b.elim0), Ideal.ofBits_zero_f32, zero_add, Ref.four_eq, sum_idx2]

/-- The sum of the losses of all coordinates of all anchors. -/
theorem total_at (w : FVec Ideal Cert.ReferenceIdeal.S8x65472x4 .f32) (x : Cert.ReferenceIdeal.S_.Idx) :
    Host.reduceAdd w (constant Cert.ReferenceIdeal.S_ .f32 0x00000000#32) Cert.ReferenceIdeal.Gen.reducesTo_S8x65472x4_S_d0_1_2 Cert.ReferenceIdeal.Gen.h_S_ x
      = ∑ b : Fin 8, ∑ a : Fin 65472, ∑ d : Fin 4, w (ix3 b a d) := by
  have e : Host.reduceAdd w (constant Cert.ReferenceIdeal.S_ .f32 0x00000000#32) Cert.ReferenceIdeal.Gen.reducesTo_S8x65472x4_S_d0_1_2 Cert.ReferenceIdeal.Gen.h_S_ x
      = Ideal.hostReduceAdd Cert.ReferenceIdeal.Gen.reducesTo_S8x65472x4_S_d0_1_2 w (Ideal.ofBits .f32 0x00000000#32) x := rfl
  rw [e, Ideal.hostReduceAdd_total _ (fun b => b.elim0), Ideal.ofBits_zero_f32, zero_add, sum_idx3]

/-- Eight rows of a sum over all anchors. -/
theorem anchors {M : Type} [AddCommMonoid M] (f : ℕ → M) (g : Fin 8 → Fin 65472 → M) (h : ∀ b a, g b a = f (65472 * b.val + a.val)) :
    ∑ b : Fin 8, ∑ a : Fin 65472, g b a = ∑ b ∈ range 8, ∑ a ∈ range 65472, f (65472 * b + a) := by
  rw [← Fin.sum_univ_eq_sum_range (fun b => ∑ a ∈ range 65472, f (65472 * b + a)) 8]
  refine sum_congr rfl fun b _ => ?_
  rw [← Fin.sum_univ_eq_sum_range (fun a => f (65472 * b.val + a)) 65472]
  exact sum_congr rfl fun a _ => h b a

section
variable (I : Ins Ideal) (A0 : FVec Ideal Cert.ReferenceIdeal.S8x512x4 .f32) (A1 : IVec Cert.ReferenceIdeal.S8x65472x1 32)
    (A2 : FVec Ideal Cert.ReferenceIdeal.S8x65472x4 .f32)

/-- The reference's weight of an anchor is its count. -/
theorem weight_at (b : Fin 8) (a : Fin 65472) (hM : I.M (at1 (N := 523776) (65472 * b.val + a.val)) = A1 (ix3 b a 0)) :
    (uitofp .f32 (Ref.mask A1) : FVec Ideal Cert.ReferenceIdeal.S8x65472 .f32) (ix2 b a) = ((one I (65472 * b.val + a.val) : ℝ) : EReal) := by
  refine ((congrArg Ref.bitR (Ref.mask_at A1 b a)).trans (Ref.bitR_of (A1 (ix3 b a 0) = 1#32))).trans ?_
  unfold one bit
  rw [hM]
  split <;> simp

/-- The reference counts the matching anchors, four coordinates each. -/
theorem count_ref (hM : ∀ (b : Fin 8) (a : Fin 65472), I.M (at1 (N := 523776) (65472 * b.val + a.val)) = A1 (ix3 b a 0))
    (x : Cert.ReferenceIdeal.S_.Idx) : Ref.count A1 x = ((hitSum I : ℝ) : EReal) * ((4 : ℝ) : EReal) := by
  refine (count_at (uitofp .f32 (Ref.mask A1)) x).trans ?_
  refine congrArg (fun z : EReal => z * ((4 : ℝ) : EReal)) ?_
  refine (anchors (fun n => ((one I n : ℝ) : EReal)) _ fun b a => weight_at I A1 b a (hM b a)).trans ?_
  rw [← sum_mul (fun n => ((one I n : ℝ) : EReal)) 65472 8, coe_sum']
  unfold hitSum
  push_cast
  rfl

/-- The four losses of an anchor add to the kernel's loss of it. -/
theorem anchor_at (hM : ∀ (b : Fin 8) (a : Fin 65472), I.M (at1 (N := 523776) (65472 * b.val + a.val)) = A1 (ix3 b a 0))
    (hT : ∀ (b : Fin 8) (r : Fin 512) (d : Fin 4), I.T (at1 (N := 16384) (2048 * b.val + (4 * r.val + d.val))) = A0 (ix3 b r d))
    (hB : ∀ (b : Fin 8) (a : Fin 65472) (d : Fin 4), I.B (at1 (N := 2095104) (4 * (65472 * b.val + a.val) + d.val)) = A2 (ix3 b a d))
    (b : Fin 8) (a : Fin 65472) : ∑ d : Fin 4, Ref.losses A0 A1 A2 (ix3 b a d) = loss I (65472 * b.val + a.val) := by
  have ha := a.isLt
  have hp : pre I (65472 * b.val + a.val) = ∑ j ∈ range (a.val + 1), one I (65472 * b.val + j) := by
    unfold pre
    rw [show (65472 * b.val + a.val) % 65472 = a.val by omega, show (65472 * b.val + a.val) / 65472 = b.val by omega]
  have hr : (Ref.rank A1 (ix2 b a)).toNat = rk (pre I (65472 * b.val + a.val)) := by
    rw [Ref.rank_at A1 b a (fun j => one I (65472 * b.val + j)) (fun i => by unfold one; rw [hM]), hp, rk]
  have ht : ∀ d : Fin 4, Ref.losses A0 A1 A2 (ix3 b a d)
      = term I (65472 * b.val + a.val) d.val * (if A1 (ix3 b a 0) = 1#32 then 1 else 0) := by
    intro d
    rw [Ref.losses_at A0 A1 A2 b a d ⟨rk (pre I (65472 * b.val + a.val)), rk_lt _⟩ hr, ← hT, ← hB]
    unfold term
    rw [show (65472 * b.val + a.val) / 65472 = b.val by omega]
  rw [Fin.sum_univ_four, ht, ht, ht, ht]
  unfold loss
  rw [hM]
  generalize term I (65472 * b.val + a.val) = t
  split
  · simp only [mul_one]; rfl
  · simp only [mul_zero, add_zero]

/-- Over flat arrays and the reference's arrays that hold the same elements, the reference's loss is the kernel's. -/
theorem out_eq
    (hM : ∀ (b : Fin 8) (a : Fin 65472), I.M (at1 (N := 523776) (65472 * b.val + a.val)) = A1 (ix3 b a 0))
    (hT : ∀ (b : Fin 8) (r : Fin 512) (d : Fin 4), I.T (at1 (N := 16384) (2048 * b.val + (4 * r.val + d.val))) = A0 (ix3 b r d))
    (hB : ∀ (b : Fin 8) (a : Fin 65472) (d : Fin 4), I.B (at1 (N := 2095104) (4 * (65472 * b.val + a.val) + d.val)) = A2 (ix3 b a d))
    (x : Cert.ReferenceIdeal.S_.Idx) : Ref.out A0 A1 A2 x = answer I := by
  have hcount := count_ref I A1 hM x
  have htotal : Ref.total A0 A1 A2 x = lossSum I := by
    refine (total_at (Ref.losses A0 A1 A2) x).trans ?_
    refine (anchors (loss I) _ fun b a => anchor_at I A0 A1 A2 hM hT hB b a).trans ?_
    rw [← sum_mul (loss I) 65472 8]
    unfold lossSum
    rfl
  refine (quotient_at (Ref.total A0 A1 A2) (Ref.count A1) x).trans ?_
  rw [hcount, htotal, Ideal.ofBits_zero_f32, answer]

end

section
open Cert.KernelIdeal Cert.KernelIdeal.Gen

variable (m : (ℓ : Loc nD τ sig) → Buf (Elt Ideal) ℓ) (c : Dev nD)

/-- A flat position's element is the array's at the position's coordinates. -/
theorem flat3 {α : Type} {p q r N : ℕ} [NeZero N] (f : (⟨3, ![p, q, r]⟩ : Shape).Idx → α) (h : (⟨3, ![p, q, r]⟩ : Shape).ShapeCasts ⟨1, ![N]⟩)
    (a : Fin p) (b : Fin q) (d : Fin r) (n : ℕ) (hn : n < N) (e : (a.val * q + b.val) * r + d.val = n) :
    shapeCast ⟨1, ![N]⟩ f h (at1 n) = f (ix3 a b d) := by
  refine congrArg f (Shape.reshapeEquiv_eq_of_rowMajor _ ?_)
  rw [Shape.rowMajor_val_three, Shape.rowMajor_val_one, at1_val hn]
  exact e

/-- The kernel's result is the loss of its arguments. -/
theorem resf_eq (x : main_v5.ty.shape.Idx) : resf m c x = answer (insOf m c) := result_eq (insOf m c) _

end

/-- Kernel and reference, started on the same arguments over the extended reals, both end, with the same loss. -/
theorem algebraic : Cert.algebraic_KernelIdeal_ReferenceIdeal := by
  intro m g m' g' _ hargs
  refine ⟨resf m, ?_, ?_⟩
  · exact (θ_run Cert.KernelIdeal.defs _ _).mono (fun r (h : QC m r) => h.1) (run_main (F := Ideal) m g)
  · refine (θ_run Cert.ReferenceIdeal.defs _ _).mono (fun r h c => ⟨(h c).1.trans ?_, (h c).2⟩) (Cert.ReferenceIdeal.Value.run (F := Ideal) m' g')
    rw [Ref.res_eq, (hargs c).1, (hargs c).2.1, (hargs c).2.2]
    funext x
    refine (out_eq (insOf m c) _ _ _ (fun b a => ?_) (fun b r d => ?_) (fun b a d => ?_) x).trans (resf_eq m c x).symm
    · exact flat3 (N := 523776) _ _ b a 0 _ (by omega) (by show (b.val * 65472 + a.val) * 1 + 0 = _; omega)
    · exact flat3 (N := 16384) _ _ b r d _ (by omega) (by omega)
    · exact flat3 (N := 2095104) _ _ b a d _ (by omega) (by omega)

end Cert.Proof

end
-- ==== Proof.lean ====
/-
  The certificate's proof: the frames of the kernel and of its reference, read off their runs (Proof/Run.lean), and their
  equal losses over the extended reals (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
